-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x64x32x32 : Shape := ⟨4, ![16, 64, 32, 32]⟩
abbrev S1024x64 : Shape := ⟨2, ![1024, 64]⟩
abbrev S16x64x1024 : Shape := ⟨3, ![16, 64, 1024]⟩
abbrev S16x1x1024 : Shape := ⟨3, ![16, 1, 1024]⟩
abbrev S4x64x1024 : Shape := ⟨3, ![4, 64, 1024]⟩
abbrev S4x1x1024 : Shape := ⟨3, ![4, 1, 1024]⟩
abbrev S1024 : Shape := ⟨1, ![1024]⟩
abbrev S1024x1 : Shape := ⟨2, ![1024, 1]⟩
abbrev S1x64x1024 : Shape := ⟨3, ![1, 64, 1024]⟩
abbrev S64x1024 : Shape := ⟨2, ![64, 1024]⟩
abbrev S1x1024 : Shape := ⟨2, ![1, 1024]⟩
abbrev S1024x1024 : Shape := ⟨2, ![1024, 1024]⟩
abbrev S1x1x1024 : Shape := ⟨3, ![1, 1, 1024]⟩
abbrev S16384x1 : Shape := ⟨2, ![16384, 1]⟩

abbrev nBuf : Space → Nat
  | .hbm => 7
  | .vmem => 7
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x64x1024, .f32⟩
  | .hbm, ⟨3, _⟩ => ⟨S16x1x1024, .i32⟩
  | .hbm, ⟨4, _⟩ => ⟨S16x64x1024, .f32⟩
  | .hbm, ⟨5, _⟩ => ⟨S16384x1, .i32⟩
  | .hbm, ⟨6, _⟩ => ⟨S16x64x32x32, .f32⟩
  | .local _ .vmem, ⟨0, _⟩ => ⟨S4x64x1024, .f32⟩
  | .local _ .vmem, ⟨1, _⟩ => ⟨S4x64x1024, .f32⟩
  | .local _ .vmem, ⟨2, _⟩ => ⟨S1024x64, .f32⟩
  | .local _ .vmem, ⟨3, _⟩ => ⟨S4x1x1024, .i32⟩
  | .local _ .vmem, ⟨4, _⟩ => ⟨S4x1x1024, .i32⟩
  | .local _ .vmem, ⟨5, _⟩ => ⟨S4x64x1024, .f32⟩
  | .local _ .vmem, ⟨6, _⟩ => ⟨S4x64x1024, .f32⟩
  | _, _ => ⟨S16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S64x1024 : Shape := ⟨2, ![64, 1024]⟩
abbrev S1 : Shape := ⟨1, ![1]⟩
abbrev S1x1 : Shape := ⟨2, ![1, 1]⟩

abbrev nBuf : Space → Nat
  | .hbm => 53
  | .vmem => 0
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x32x32x64, .f32⟩
  | .hbm, ⟨3, _⟩ => ⟨S16384x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S1024x64, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S64x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S16384x1, .i32⟩
  | .hbm, ⟨27, _⟩ => ⟨S16384, .i32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S1, .i32⟩
  | .hbm, ⟨37, _⟩ => ⟨S_, .i32⟩
  | .hbm, ⟨38, _⟩ => ⟨S16384x1, .i32⟩
  | .hbm, ⟨39, _⟩ => ⟨S16384x1, .i1⟩
  | .hbm, ⟨40, _⟩ => ⟨S1x1, .i32⟩
  | .hbm, ⟨41, _⟩ => ⟨S16384x1, .i32⟩
  | .hbm, ⟨42, _⟩ => ⟨S16384x1, .i1⟩
  | .hbm, ⟨43, _⟩ => ⟨S16384x1, .i1⟩
  | .hbm, ⟨44, _⟩ => ⟨S_, .i1⟩
  | .hbm, ⟨45, _⟩ => ⟨S16384, .i1⟩
  | .hbm, ⟨46, _⟩ => ⟨S16384x64, .f32⟩
  | .hbm, ⟨47, _⟩ => ⟨S16384x64, .i1⟩
  | .hbm, ⟨48, _⟩ => ⟨S_, .f32⟩
  | .hbm, ⟨49, _⟩ => ⟨S16384x64, .f32⟩
  | .hbm, ⟨50, _⟩ => ⟨S16384x64, .f32⟩
  | .hbm, ⟨51, _⟩ => ⟨S16x32x32x64, .f32⟩
  | .hbm, ⟨52, _⟩ => ⟨S16x64x32x32, .f32⟩
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]
-- ==== Proof.Kernel.Stages.lean ====
/-
  What the kernel computes for one image, as three stages: `distOf` (the distance of every codebook vector to every pixel of
  the image), `indexOf` (for every pixel the position of the first least distance) and `rowsOf` (for every pixel the codebook
  vector at that position, as a product with a table of zeros and ones). The kernel treats the four images of a block alike:
  each of its eight stored values is one of these stages at its image.
-/
module

public import proofs.«01_k».proof.Proof.Gen.KernelIdeal.Frame
public import Idealize.ShloMosaic.Lib.Pipeline.Value

@[expose] public section

set_option maxRecDepth 16384

noncomputable section

namespace Cert.Proof.Kernel

open Cert.KernelIdeal Cert.KernelIdeal.Gen
open Idealize.ShloMosaic Idealize.SL.Sem

variable {F : FTy → Type} [FloatOps F]

/-- An image as a matrix: channels down, pixels across. -/
def matrix (v : FVec F S1x64x1024 .f32) : FVec F S64x1024 .f32 := shapeCast S64x1024 v shapeCasts_S1x64x1024_S64x1024

/-- The squared length of every pixel, as a row. -/
def pixelNorms (m : FVec F S64x1024 .f32) : FVec F S1x1024 .f32 :=
  transpose S1x1024 [1, 0]
    (shapeCast S1024x1
      (multiReduction .add [1] S1024 (transpose S1024x64 [1, 0] (mulf m m) transposes_S64x1024_p1_0_S1024x64) 0x00000000#32
        reduces_S1024x64_S1024 (.inl rfl) rfl)
      shapeCasts_S1024_S1024x1)
    transposes_S1024x1_p1_0_S1x1024

/-- The squared length of every codebook vector, as a column. -/
def codeNorms (c : FVec F S1024x64 .f32) : FVec F S1024x1 .f32 :=
  shapeCast S1024x1 (multiReduction .add [1] S1024 (mulf c c) 0x00000000#32 reduces_S1024x64_S1024 (.inl rfl) rfl)
    shapeCasts_S1024_S1024x1

/-- The doubled codebook times the image. -/
def cross (c : FVec F S1024x64 .f32) (m : FVec F S64x1024 .f32) : FVec F S1024x1024 .f32 :=
  matmul dot_S1024x64_S64x1024_S1024x1024_1_0_0_1_n_n none (addf c c) m (constant S1024x1024 .f32 0x00000000#32)

/-- The distance of every codebook vector (down) to every pixel (across). -/
def distOf (c : FVec F S1024x64 .f32) (v : FVec F S1x64x1024 .f32) : FVec F S1024x1024 .f32 :=
  subf
    (addf (broadcastTo S1024x1024 (pixelNorms (matrix v)) broadcasts_S1x1024_S1024x1024)
      (broadcastTo S1024x1024 (codeNorms c) broadcasts_S1024x1_S1024x1024))
    (cross c (matrix v))

/-- The position of every codebook vector, down. -/
def positions : IVec S1024x1024 32 := iota .tc S1024x1024 32 [0] iota_S1024x1024_d0_w32

/-- The least entry of every column. -/
def leastOf (d : FVec F S1024x1024 .f32) : FVec F S1024 .f32 :=
  multiReduction .minimumf [0] S1024 d 0x7F800000#32 reduces_S1024x1024_S1024 (.inl rfl) rfl

/-- Where a table meets the least entry of its column. -/
def hits (d : FVec F S1024x1024 .f32) : IVec S1024x1024 1 :=
  cmpf .oeq d (broadcastTo S1024x1024 (shapeCast S1x1024 (leastOf d) shapeCasts_S1024_S1x1024) broadcasts_S1x1024_S1024x1024)

/-- The least position marked in every column, as a row. -/
def firstOf (b : IVec S1024x1024 1) : IVec S1x1024 32 :=
  shapeCast S1x1024
    (multiReductionI .minsi [0] S1024 (select b positions (broadcast S1024x1024 1024#32)) 2147483647#32
      reduces_S1024x1024_S1024 rfl)
    shapeCasts_S1024_S1x1024

/-- For every pixel the position of its first least distance. -/
def indexOf (d : FVec F S1024x1024 .f32) : IVec S1x1024 32 := firstOf (hits d)

/-- One at the position a column names and zero elsewhere. -/
def oneHot (i : IVec S1x1024 32) : FVec F S1024x1024 .f32 :=
  sitofp .f32 (extui 32 (cmpi .eq positions (broadcastTo S1024x1024 i broadcasts_S1x1024_S1024x1024)) natLt_1_32)

/-- The codebook vectors at the positions, as an image. -/
def rowsOf (c : FVec F S1024x64 .f32) (i : IVec S1x1024 32) : FVec F S1x64x1024 .f32 :=
  shapeCast S1x64x1024
    (matmul dot_S1024x64_S1024x1024_S64x1024_0_0_1_1_n_n none c (oneHot i) (constant S64x1024 .f32 0x00000000#32))
    shapeCasts_S64x1024_S1x64x1024

/-- The positions as they are stored. -/
def storedIndex (i : IVec S1x1024 32) : IVec S1x1x1024 32 := shapeCast S1x1x1024 i shapeCasts_S1x1024_S1x1x1024

variable (x : Vec F S4x64x1024 .f32) (c : Vec F S1024x64 .f32) (v : Vec F S1x64x1024 .f32)

/-- The first image's positions, -/
theorem index_first : k0_pay7 c v = storedIndex (indexOf (distOf c v)) := rfl

/-- and its vectors. -/
theorem rows_first : k0_pay8 c v = rowsOf c (indexOf (distOf c v)) := rfl

/-- The second image's positions, -/
theorem index_second : k0_pay10 (k0_pay4 c) (k0_pay5 c) v = storedIndex (indexOf (distOf c v)) := rfl

/-- and its vectors. -/
theorem rows_second : k0_pay11 c (k0_pay4 c) (k0_pay5 c) v = rowsOf c (indexOf (distOf c v)) := rfl

/-- The third image's positions, -/
theorem index_third : k0_pay16 (k0_pay4 c) (k0_pay13 v) (k0_pay14 (k0_pay5 c) v) = storedIndex (indexOf (distOf c v)) := rfl

/-- and its vectors. -/
theorem rows_third : k0_pay17 c (k0_pay4 c) (k0_pay13 v) (k0_pay14 (k0_pay5 c) v) = rowsOf c (indexOf (distOf c v)) := rfl

/-- The fourth image's positions, -/
theorem index_fourth :
    k0_pay2 (iota .tc S1024x1024 32 [0] iota_S1024x1024_d0_w32) (k0_pay18 (k0_pay4 c) (k0_pay5 c) v) 1024#32 = storedIndex (indexOf (distOf c v)) := rfl

/-- and its vectors. -/
theorem rows_fourth :
    k0_pay3 c (iota .tc S1024x1024 32 [0] iota_S1024x1024_d0_w32) (k0_pay18 (k0_pay4 c) (k0_pay5 c) v) 1024#32 = rowsOf c (indexOf (distOf c v)) := rfl

/-- The offsets of a whole two-axis rectangle are zero. -/
theorem hz : (![0, 0] : Fin 2 → Nat) = fun _ => 0 := funext fun a => by fin_cases a <;> rfl

/-- What a grid point leaves in its block of positions: four stores, each of its image's positions. -/
theorem out_index_stages : out0_2 x c
    = View.canon [⟨r0_8, storedIndex (indexOf (distOf c (View.ld x r0_7)))⟩,
        ⟨r0_6, storedIndex (indexOf (distOf c (View.ld x r0_5)))⟩,
        ⟨r0_4, storedIndex (indexOf (distOf c (View.ld x r0_3)))⟩,
        ⟨r0_2, storedIndex (indexOf (distOf c (View.ld x r0_1)))⟩] := by
  unfold_out out0_2
  rw [View.ld_unit_zero hz, index_first, index_second, index_third, index_fourth]

/-- What it leaves in its block of vectors: four stores, each of its image's vectors. -/
theorem out_rows_stages : out0_3 x c
    = View.canon [⟨r0_7, rowsOf c (indexOf (distOf c (View.ld x r0_7)))⟩,
        ⟨r0_5, rowsOf c (indexOf (distOf c (View.ld x r0_5)))⟩,
        ⟨r0_3, rowsOf c (indexOf (distOf c (View.ld x r0_3)))⟩,
        ⟨r0_1, rowsOf c (indexOf (distOf c (View.ld x r0_1)))⟩] := by
  unfold_out out0_3
  rw [View.ld_unit_zero hz, rows_first, rows_second, rows_third, rows_fourth]

end Cert.Proof.Kernel

end
-- ==== Proof.Nearest.lean ====
/-
  The problem's mathematics on extended reals, with no program in it.

  `sqDist x c` is the squared distance of a pixel `x` to a codebook vector `c`, expanded as `(∑ x² + ∑ c²) - 2 · ∑ x·c`.
  `IsFirstLeast d k` says that `d k` is a least entry of `d` and that no earlier entry is as small; there is exactly one such
  `k` (`exists_first`, `unique`), named `nearest d`. Two ways to find it are shown to give it: taking the minimum and then
  the least position that attains it (`fold_positions`), and folding (value, position) pairs by the lexicographic order
  (`lexMin_fold`). A sum against the one-hot row of `k` reads entry `k` (`oneHot_sum`).
-/
module

public import Idealize.ShloMosaic.Lib.Pointwise
public import Idealize.ShloMosaic.Lib.SortNet.Extract
public import Idealize.ShloMosaic.PureOps.Ideal.Laws

@[expose] public section

noncomputable section

namespace Cert.Proof.Nearest

open Idealize.ShloMosaic

/-! ## The squared distance -/

/-- The squared distance of `x` to `c`, expanded. -/
def sqDist {n : Nat} (x c : Fin n → EReal) : EReal :=
  ((∑ j, x j * x j) + ∑ j, c j * c j) - 2 * ∑ j, x j * c j

/-- Doubling distributes over any sum of extended reals. -/
theorem two_mul_sum {ι : Type} (s : Finset ι) (f : ι → EReal) : 2 * ∑ j ∈ s, f j = ∑ j ∈ s, 2 * f j := by
  classical
  induction s using Finset.induction_on with
  | empty => simp
  | insert a s ha ih =>
    rw [Finset.sum_insert ha, Finset.sum_insert ha, ← ih]
    exact EReal.left_distrib_of_nonneg_of_ne_top (by norm_num) (by exact EReal.coe_ne_top 2) _ _

/-- An extended real added to itself is its double. -/
theorem add_self (a : EReal) : a + a = 2 * a := by
  have h : (1 : EReal) + 1 = 2 := by norm_num
  rw [← h, EReal.right_distrib_of_nonneg (by norm_num) (by norm_num), one_mul]

/-- The cross term with the codebook doubled beforehand is twice the cross term. -/
theorem cross_doubled {n : Nat} (x c : Fin n → EReal) :
    ∑ j, (c j + c j) * x j = 2 * ∑ j, x j * c j := by
  rw [two_mul_sum]
  refine Finset.sum_congr rfl fun j _ => ?_
  rw [add_self, mul_assoc, mul_comm (c j)]

/-! ## The first least entry -/

/-- `d k` is a least entry of `d`, and every earlier entry is greater. -/
def IsFirstLeast {n : Nat} (d : Fin n → EReal) (k : Fin n) : Prop :=
  (∀ j, d k ≤ d j) ∧ ∀ j, j < k → d k < d j

/-- There is a first least entry. -/
theorem exists_first {n : Nat} [NeZero n] (d : Fin n → EReal) : ∃ k, IsFirstLeast d k := by
  classical
  obtain ⟨m, -, hm⟩ := Finset.exists_min_image Finset.univ d ⟨0, Finset.mem_univ _⟩
  have hne : (Finset.univ.filter fun k => d k = d m).Nonempty := ⟨m, by simp⟩
  have hk := Finset.min'_mem _ hne
  generalize hk' : (Finset.univ.filter fun k => d k = d m).min' hne = k at hk
  have e : d k = d m := (Finset.mem_filter.mp hk).2
  refine ⟨k, fun j => e ▸ hm j (Finset.mem_univ j), fun j hj => ?_⟩
  refine lt_of_le_of_ne (e ▸ hm j (Finset.mem_univ j)) fun h => ?_
  have : k ≤ j := hk' ▸ Finset.min'_le _ j (Finset.mem_filter.mpr ⟨Finset.mem_univ _, h ▸ e⟩)
  omega

/-- Only one entry is the first least. -/
theorem unique {n : Nat} {d : Fin n → EReal} {k l : Fin n} (hk : IsFirstLeast d k) (hl : IsFirstLeast d l) : k = l := by
  rcases lt_trichotomy k l with h | h | h
  · exact absurd (hk.1 l) (not_le.mpr (hl.2 k h))
  · exact h
  · exact absurd (hl.1 k) (not_le.mpr (hk.2 l h))

/-- The position of the first least entry. -/
def nearest {n : Nat} [NeZero n] (d : Fin n → EReal) : Fin n := (exists_first d).choose

/-- The nearest position is the first least one. -/
theorem nearest_spec {n : Nat} [NeZero n] (d : Fin n → EReal) : IsFirstLeast d (nearest d) := (exists_first d).choose_spec

/-! ## Positions as words -/

/-- A position below `2 ^ 31`, read signed, is itself. -/
theorem toInt_ofNat {n : Nat} (hn : n ≤ 2 ^ 31) (k : Fin n) : (BitVec.ofNat 32 k.val).toInt = k.val := by
  have := k.isLt
  rw [BitVec.toInt_eq_toNat_cond, BitVec.toNat_ofNat, Nat.mod_eq_of_lt (by omega)]
  split <;> omega

/-! ## The minimum, then the least position that attains it -/

/-- The fold of the minimum from `⊤` is the first least entry's value. -/
theorem fold_min_eq {n : Nat} {d : Fin n → EReal} {k : Fin n} (hk : IsFirstLeast d k) :
    Finset.univ.fold min ⊤ d = d k := by
  refine le_antisymm ?_ ?_
  · rw [Finset.fold_min_le]; exact Or.inr ⟨k, Finset.mem_univ k, le_rfl⟩
  · rw [Finset.le_fold_min]; exact ⟨le_top, fun j _ => hk.1 j⟩

/-- Read signed, a fold of the signed minimum over words is the fold of the minimum over the integers. -/
theorem toInt_fold_minsi {ι : Type} (s : Finset ι) (b : BitVec 32) (f : ι → BitVec 32) :
    (s.fold IntOp.minsi b f).toInt = s.fold min b.toInt fun j => (f j).toInt := by
  classical
  induction s using Finset.induction_on with
  | empty => simp
  | insert a s ha ih => rw [Finset.fold_insert ha, Finset.fold_insert ha, SortNet.toInt_minsi, ih]

/-- The least, over all positions, of the position where the entry equals the minimum and of a word past every position
    elsewhere, is the position of the first least entry. -/
theorem fold_positions {n : Nat} (hn : n ≤ 2 ^ 31) {d : Fin n → EReal} {k : Fin n} (hk : IsFirstLeast d k)
    (init past : BitVec 32) (hi : (k.val : Int) ≤ init.toInt) (hp : (n : Int) ≤ past.toInt) (f : Fin n → BitVec 32)
    (hf : ∀ j, d j = d k → f j = BitVec.ofNat 32 j.val) (hf' : ∀ j, d j ≠ d k → f j = past) :
    Finset.univ.fold IntOp.minsi init f = BitVec.ofNat 32 k.val := by
  apply BitVec.eq_of_toInt_eq
  rw [toInt_fold_minsi, toInt_ofNat hn]
  refine le_antisymm ?_ ?_
  · rw [Finset.fold_min_le]
    exact Or.inr ⟨k, Finset.mem_univ k, by rw [hf k rfl, toInt_ofNat hn]⟩
  · rw [Finset.le_fold_min]
    refine ⟨hi, fun j _ => ?_⟩
    by_cases e : d j = d k
    · rw [hf j e, toInt_ofNat hn]
      by_contra h
      have hlt : j < k := by
        have : (j.val : Int) < k.val := not_le.mp h
        exact Fin.lt_def.mpr (by omega)
      exact absurd e (ne_of_gt (hk.2 j hlt))
    · rw [hf' j e]
      have := k.isLt
      omega

/-! ## Folding pairs by the lexicographic order -/

/-- `a` comes no later than `b`: its value is smaller, or the values agree and its position, read signed, is no greater. -/
def LexLe (a b : EReal × BitVec 32) : Prop := a.1 < b.1 ∨ (a.1 = b.1 ∧ a.2.toInt ≤ b.2.toInt)

/-- A pair comes no later than itself. -/
theorem LexLe.refl (a : EReal × BitVec 32) : LexLe a a := Or.inr ⟨rfl, le_rfl⟩

/-- The order of pairs is transitive. -/
theorem LexLe.trans {a b c : EReal × BitVec 32} (h : LexLe a b) (h' : LexLe b c) : LexLe a c := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

/-- A body that returns the earlier of its two pairs folds a list to one of the pairs met, no later than any of them. -/
theorem lex_foldl (f : EReal × BitVec 32 → EReal × BitVec 32 → EReal × BitVec 32)
    (hf : ∀ a b, (f a b = a ∨ f a b = b) ∧ LexLe (f a b) a ∧ LexLe (f a b) b) (L : List (EReal × BitVec 32)) :
    ∀ a, L.foldl f a ∈ a :: L ∧ ∀ b ∈ a :: L, LexLe (L.foldl f a) b := by
  induction L with
  | nil =>
    intro a
    exact ⟨List.mem_singleton.mpr rfl, fun b hb => List.mem_singleton.mp hb ▸ LexLe.refl a⟩
  | cons p L ih =>
    intro a
    obtain ⟨hm, hl⟩ := ih (f a p)
    obtain ⟨hor, ha, hp⟩ := hf a p
    have hhead := hl (f a p) List.mem_cons_self
    refine ⟨?_, fun b hb => ?_⟩
    · show L.foldl f (f a p) ∈ _
      rcases List.mem_cons.mp hm with e | e
      · rw [e]
        rcases hor with h | h <;> rw [h] <;> simp
      · exact List.mem_cons_of_mem _ (List.mem_cons_of_mem _ e)
    · show LexLe (L.foldl f (f a p)) b
      rcases List.mem_cons.mp hb with e | e
      · exact e ▸ hhead.trans ha
      · rcases List.mem_cons.mp e with e | e
        · exact e ▸ hhead.trans hp
        · exact hl b (List.mem_cons_of_mem _ e)

/-- Folded from `(⊤, 0)` over the pairs (entry, position) of `d` in any order, such a body ends at the position of the first
    least entry. -/
theorem lexMin_fold {n : Nat} (hn : n ≤ 2 ^ 31) {d : Fin n → EReal} {k : Fin n} (hk : IsFirstLeast d k)
    (f : EReal × BitVec 32 → EReal × BitVec 32 → EReal × BitVec 32)
    (hf : ∀ a b, (f a b = a ∨ f a b = b) ∧ LexLe (f a b) a ∧ LexLe (f a b) b) (L : List (EReal × BitVec 32))
    (hL : ∀ p, p ∈ L ↔ ∃ j, p = (d j, BitVec.ofNat 32 j.val)) :
    (L.foldl f (⊤, 0#32)).2 = BitVec.ofNat 32 k.val := by
  obtain ⟨hm, hl⟩ := lex_foldl f hf L (⊤, 0#32)
  have hle := hl _ (List.mem_cons_of_mem _ ((hL _).mpr ⟨k, rfl⟩))
  generalize L.foldl f (⊤, 0#32) = r at hm hle
  rcases List.mem_cons.mp hm with e | e
  · subst e
    rcases hle with h | ⟨h, -⟩
    · exact absurd h (not_lt.mpr le_top)
    · have h0 : k.val = 0 := by
        by_contra hne
        have hpos : (⟨0, by have := k.isLt; omega⟩ : Fin n) < k := Fin.lt_def.mpr (by show 0 < k.val; omega)
        have := hk.2 _ hpos
        have h' : d k = ⊤ := h.symm
        exact absurd this (not_lt.mpr (h' ▸ le_top))
      show (0#32 : BitVec 32) = _
      rw [h0]
  · obtain ⟨j, rfl⟩ := (hL _).mp e
    rcases hle with h | ⟨h, i⟩
    · exact absurd (hk.1 j) (not_le.mpr h)
    · have i' : (j.val : Int) ≤ k.val := by
        have := i
        simp only [toInt_ofNat hn] at this
        exact this
      have hjk : j = k := by
        by_contra hne
        have hlt : j < k := lt_of_le_of_ne (Fin.le_def.mpr (by omega)) hne
        exact absurd h (ne_of_gt (hk.2 j hlt))
      rw [hjk]

/-! ## The one-hot sum -/

/-- A sum against the indicator of `k` is the entry at `k`: the other products are products with zero, which is zero on the
    extended reals. -/
theorem oneHot_sum {n : Nat} (k : Fin n) (c h : Fin n → EReal) (h1 : h k = 1) (h0 : ∀ j, j ≠ k → h j = 0) :
    ∑ j, c j * h j = c k := by
  rw [Finset.sum_eq_single k (fun j _ hj => by rw [h0 j hj, mul_zero]) (fun h => absurd (Finset.mem_univ k) h), h1, mul_one]

end Cert.Proof.Nearest

end
-- ==== Proof.Kernel.StageValues.lean ====
/-
  The three stages of one image read at an entry: the distance is `sqDist`, the position is that of the nearest codebook
  vector, and the product with the table of zeros and ones is the codebook vector at the position.
-/
module

public import proofs.«01_k».proof.Proof.Kernel.Stages
public import proofs.«01_k».proof.Proof.Nearest

@[expose] public section

set_option maxRecDepth 16384

noncomputable section

namespace Cert.Proof.Kernel

open Cert.KernelIdeal Cert.KernelIdeal.Gen
open Idealize.ShloMosaic Idealize.SL.Sem
open Cert.Proof.Nearest

/-- The word of `+∞` is the greatest extended real. -/
theorem ofBits_top : Ideal.ofBits .f32 0x7F800000#32 = ⊤ := by simp [Ideal.ofBits, Ideal.ieee]

/-- The image's matrix holds the image. -/
theorem matrix_apply (v : FVec Ideal S1x64x1024 .f32) (j : Fin 64) (p : Fin 1024) : matrix v (ix2 j p) = v (ix3 0 j p) := by
  pointwise [matrix]

/-- The squared length of pixel `p`. -/
theorem pixelNorms_apply (m : FVec Ideal S64x1024 .f32) (z : Fin 1) (p : Fin 1024) :
    pixelNorms m (ix2 z p) = ∑ j : Fin 64, m (ix2 j p) * m (ix2 j p) := by
  pointwise [pixelNorms]

/-- The squared length of codebook vector `k`. -/
theorem codeNorms_apply (c : FVec Ideal S1024x64 .f32) (k : Fin 1024) (z : Fin 1) :
    codeNorms c (ix2 k z) = ∑ j : Fin 64, c (ix2 k j) * c (ix2 k j) := by
  pointwise [codeNorms]

/-- The doubled product of codebook vector `k` and pixel `p`. -/
theorem cross_apply (c : FVec Ideal S1024x64 .f32) (m : FVec Ideal S64x1024 .f32) (k p : Fin 1024) :
    cross c m (ix2 k p) = ∑ j : Fin 64, (c (ix2 k j) + c (ix2 k j)) * m (ix2 j p) := by
  pointwise [cross]

/-- Entry `(k, p)` of the distances is the squared distance of pixel `p` to codebook vector `k`. -/
theorem distOf_apply (c : FVec Ideal S1024x64 .f32) (v : FVec Ideal S1x64x1024 .f32) (k p : Fin 1024) :
    distOf c v (ix2 k p) = sqDist (fun j : Fin 64 => v (ix3 0 j p)) (fun j => c (ix2 k j)) := by
  pointwise [distOf]
  rw [pixelNorms_apply, codeNorms_apply, cross_apply]
  simp only [matrix_apply]
  rw [cross_doubled (fun j : Fin 64 => v (ix3 0 j p)) (fun j => c (ix2 k j))]
  rfl

/-- The position table holds `k` in row `k`. -/
theorem positions_apply (k p : Fin 1024) : positions (ix2 k p) = BitVec.ofNat 32 k.val := by
  pointwise [positions]

/-- The least entry of column `p`. -/
theorem leastOf_apply (d : FVec Ideal S1024x1024 .f32) (p : Fin 1024) :
    leastOf d (ix1 p) = d (ix2 (nearest fun k : Fin 1024 => d (ix2 k p)) p) := by
  have h := fold_min_eq (nearest_spec fun k : Fin 1024 => d (ix2 k p))
  refine Eq.trans ?_ h
  pointwise [leastOf]
  rw [ofBits_top]

/-- An entry is marked where it equals the least of its column. -/
theorem hits_apply (d : FVec Ideal S1024x1024 .f32) (k p : Fin 1024) :
    hits d (ix2 k p) = BitVec.ofBool (decide (d (ix2 k p) = leastOf d (ix1 p))) := by
  pointwise [hits]

/-- The least marked position of column `p`, as a fold. -/
theorem firstOf_apply (b : IVec S1024x1024 1) (z : Fin 1) (p : Fin 1024) :
    firstOf b (ix2 z p) = Finset.univ.fold IntOp.minsi 2147483647#32
      fun k : Fin 1024 => Scalar.select (b (ix2 k p)) (positions (ix2 k p)) 1024#32 := by
  pointwise [firstOf]

/-- The entry of the table of zeros and ones. -/
theorem oneHot_apply (i : IVec S1x1024 32) (k p : Fin 1024) :
    oneHot (F := Ideal) i (ix2 k p) = if positions (ix2 k p) = i (ix2 0 p) then 1 else 0 := by
  pointwise [oneHot]
  by_cases h : positions (ix2 k p) = i (ix2 0 p)
  · rw [if_pos h, h]
    simp [IntOp.cmpi, FloatOps.sitofp]
  · rw [if_neg h]
    have e : (positions (ix2 k p) == i (ix2 0 p)) = false := beq_eq_false_iff_ne.mpr h
    simp [IntOp.cmpi, FloatOps.sitofp, e]

/-- The stored rows as a sum over the codebook. -/
theorem rowsOf_sum (c : FVec Ideal S1024x64 .f32) (i : IVec S1x1024 32) (z : Fin 1) (j : Fin 64) (p : Fin 1024) :
    rowsOf c i (ix3 z j p) = ∑ k : Fin 1024, c (ix2 k j) * oneHot i (ix2 k p) := by
  pointwise [rowsOf]

/-- The positions as stored. -/
theorem storedIndex_apply (i : IVec S1x1024 32) (y z : Fin 1) (p : Fin 1024) : storedIndex i (ix3 y z p) = i (ix2 0 p) := by
  pointwise [storedIndex]

/-- For pixel `p` the kernel's position is that of the first least distance of column `p`. -/
theorem indexOf_apply (d : FVec Ideal S1024x1024 .f32) (z : Fin 1) (p : Fin 1024) :
    indexOf d (ix2 z p) = BitVec.ofNat 32 (nearest fun k : Fin 1024 => d (ix2 k p)).val := by
  unfold indexOf
  rw [firstOf_apply]
  have hlt := (nearest fun k : Fin 1024 => d (ix2 k p)).isLt
  refine fold_positions (by norm_num) (nearest_spec fun k : Fin 1024 => d (ix2 k p)) _ 1024#32 ?_ (by decide) _ ?_ ?_
  · have e : (2147483647#32 : BitVec 32).toInt = 2147483647 := by decide
    rw [e]
    omega
  · intro k hk
    rw [hits_apply, leastOf_apply, positions_apply, decide_eq_true hk]
    rfl
  · intro k hk
    rw [hits_apply, leastOf_apply, decide_eq_false hk]
    rfl

/-- Positions below 1024 are told apart by their words. -/
theorem ofNat_injective (k l : Fin 1024) (h : BitVec.ofNat 32 k.val = BitVec.ofNat 32 l.val) : k = l := by
  have e := congrArg BitVec.toNat h
  rw [BitVec.toNat_ofNat, BitVec.toNat_ofNat] at e
  exact Fin.ext (by omega)

/-- Where column `p` names the position `k`, the stored row at pixel `p` is codebook vector `k`. -/
theorem rowsOf_apply (c : FVec Ideal S1024x64 .f32) (i : IVec S1x1024 32) (p k : Fin 1024)
    (h : i (ix2 0 p) = BitVec.ofNat 32 k.val) (z : Fin 1) (j : Fin 64) :
    rowsOf c i (ix3 z j p) = c (ix2 k j) := by
  rw [rowsOf_sum]
  refine oneHot_sum k (fun l => c (ix2 l j)) (fun l => oneHot (F := Ideal) i (ix2 l p)) ?_ fun l hl => ?_
  · show oneHot (F := Ideal) i (ix2 k p) = 1
    rw [oneHot_apply, if_pos ((positions_apply k p).trans h.symm)]
  · show oneHot (F := Ideal) i (ix2 l p) = 0
    rw [oneHot_apply, if_neg fun e => hl (ofNat_injective l k ((positions_apply l p).symm.trans (e.trans h)))]

/-- The codebook position nearest to a pixel, given by its channels. -/
def nearestTo (c : FVec Ideal S1024x64 .f32) (x : Fin 64 → EReal) : Fin 1024 :=
  nearest fun k => sqDist x (fun j => c (ix2 k j))

/-- The codebook position nearest to pixel `p` of an image stored with channels down and pixels across. -/
def nearestAt (c : FVec Ideal S1024x64 .f32) (v : FVec Ideal S1x64x1024 .f32) (p : Fin 1024) : Fin 1024 :=
  nearestTo c fun j => v (ix3 0 j p)

/-- The kernel's position for pixel `p` is that of the nearest codebook vector, -/
theorem index_value (c : FVec Ideal S1024x64 .f32) (v : FVec Ideal S1x64x1024 .f32) (z : Fin 1) (p : Fin 1024) :
    indexOf (distOf c v) (ix2 z p) = BitVec.ofNat 32 (nearestAt c v p).val := by
  rw [indexOf_apply]
  simp only [distOf_apply]
  rfl

/-- so what it stores as the position is it, -/
theorem stored_index_value (c : FVec Ideal S1024x64 .f32) (v : FVec Ideal S1x64x1024 .f32) (y z : Fin 1) (p : Fin 1024) :
    storedIndex (indexOf (distOf c v)) (ix3 y z p) = BitVec.ofNat 32 (nearestAt c v p).val := by
  rw [storedIndex_apply, index_value]

/-- and what it stores as the row is that vector. -/
theorem stored_rows_value (c : FVec Ideal S1024x64 .f32) (v : FVec Ideal S1x64x1024 .f32) (z : Fin 1) (j : Fin 64) (p : Fin 1024) :
    rowsOf c (indexOf (distOf c v)) (ix3 z j p) = c (ix2 (nearestAt c v p) j) :=
  rowsOf_apply c _ p _ (index_value c v 0 p) z j

end Cert.Proof.Kernel

end
-- ==== Proof.Kernel.Block.lean ====
/-
  What one grid point leaves in its two output blocks, as functions of the block of four images and the codebook:
  `blockIndex` and `blockRows`. Each block is written by four stores, one an image, and every store holds the same function of
  its image.
-/
module

public import proofs.«01_k».proof.Proof.Kernel.StageValues

@[expose] public section

set_option maxRecDepth 16384

noncomputable section

namespace Cert.Proof.Kernel

open Cert.KernelIdeal Cert.KernelIdeal.Gen
open Idealize.ShloMosaic Idealize.SL.Sem
open Cert.Proof.Nearest

/-- For every image of a block and every pixel the position of the nearest codebook vector. -/
def blockIndex (x : Vec Ideal S4x64x1024 .f32) (c : Vec Ideal S1024x64 .f32) : Vec Ideal S4x1x1024 .i32 :=
  fun y => BitVec.ofNat 32 (nearestTo c fun j => x (ix3 (y 0 : Fin 4) j (y 2 : Fin 1024))).val

/-- For every image of a block and every pixel the nearest codebook vector. -/
def blockRows (x : Vec Ideal S4x64x1024 .f32) (c : Vec Ideal S1024x64 .f32) : Vec Ideal S4x64x1024 .f32 :=
  fun y => c (ix2 (nearestTo c fun j => x (ix3 (y 0 : Fin 4) j (y 2 : Fin 1024))) (y 1 : Fin 64))

/-- The one image that a load of row `r` reads is image `r` of the block. -/
theorem load_row (x : Vec Ideal S4x64x1024 .f32) (r : Nat) (hr : r < 4)
    (inb : ∀ a, (![r, 0, 0] : Fin 3 → Nat) a + S1x64x1024.size a ≤ S4x64x1024.size a) (z : Fin 1) (j : Fin 64) (p : Fin 1024) :
    View.ld x (Rect.unit (s := S4x64x1024) ![r, 0, 0] S1x64x1024.size inb) (ix3 z j p) = x (ix3 (⟨r, hr⟩ : Fin 4) j p) := by
  refine congrArg x (funext fun a => Fin.ext ?_)
  match a with
  | ⟨0, _⟩ => show r + 1 * z.val = r; omega
  | ⟨1, _⟩ => show 0 + 1 * j.val = j.val; omega
  | ⟨2, _⟩ => show 0 + 1 * p.val = p.val; omega

/-- Entry by entry, what is stored in row `r` of the block of positions. -/
theorem piece_index (x : Vec Ideal S4x64x1024 .f32) (c : Vec Ideal S1024x64 .f32) (r : Nat) (hr : r < 4)
    (inb : ∀ a, (![r, 0, 0] : Fin 3 → Nat) a + S1x64x1024.size a ≤ S4x64x1024.size a)
    (inb' : ∀ a, (![r, 0, 0] : Fin 3 → Nat) a + S1x1x1024.size a ≤ S4x1x1024.size a) (i : S1x1x1024.Idx) :
    storedIndex (indexOf (distOf (F := Ideal) c (View.ld x (Rect.unit (s := S4x64x1024) ![r, 0, 0] S1x64x1024.size inb)))) i
      = blockIndex x c ((Rect.unit (s := S4x1x1024) ![r, 0, 0] S1x1x1024.size inb').emb i) := by
  idx_vars i
  rw [stored_index_value]
  unfold nearestAt blockIndex
  simp only [load_row x r hr inb]
  refine congrArg (fun f => BitVec.ofNat 32 (nearestTo c f).val) (funext fun j => congrArg x (funext fun a => Fin.ext ?_))
  match a with
  | ⟨0, _⟩ => show r = r + 1 * i0.val; omega
  | ⟨1, _⟩ => rfl
  | ⟨2, _⟩ => show i2.val = 0 + 1 * i2.val; omega

/-- Entry by entry, what is stored in row `r` of the block of vectors. -/
theorem piece_rows (x : Vec Ideal S4x64x1024 .f32) (c : Vec Ideal S1024x64 .f32) (r : Nat) (hr : r < 4)
    (inb inb' : ∀ a, (![r, 0, 0] : Fin 3 → Nat) a + S1x64x1024.size a ≤ S4x64x1024.size a) (i : S1x64x1024.Idx) :
    rowsOf (F := Ideal) c (indexOf (distOf (F := Ideal) c (View.ld x (Rect.unit (s := S4x64x1024) ![r, 0, 0] S1x64x1024.size inb)))) i
      = blockRows x c ((Rect.unit (s := S4x64x1024) ![r, 0, 0] S1x64x1024.size inb').emb i) := by
  idx_vars i
  rw [stored_rows_value]
  unfold nearestAt blockRows
  simp only [load_row x r hr inb]
  have e0 : (((Rect.unit (s := S4x64x1024) ![r, 0, 0] S1x64x1024.size inb').emb (ix3 i0 i1 i2)) 0 : Fin 4) = ⟨r, hr⟩ :=
    Fin.ext (by show r + 1 * i0.val = r; omega)
  have e1 : (((Rect.unit (s := S4x64x1024) ![r, 0, 0] S1x64x1024.size inb').emb (ix3 i0 i1 i2)) 1 : Fin 64) = i1 :=
    Fin.ext (by show 0 + 1 * i1.val = i1.val; omega)
  have e2 : (((Rect.unit (s := S4x64x1024) ![r, 0, 0] S1x64x1024.size inb').emb (ix3 i0 i1 i2)) 2 : Fin 1024) = i2 :=
    Fin.ext (by show 0 + 1 * i2.val = i2.val; omega)
  rw [e0, e1, e2]
  rfl

/-- What each of the four stores holds, read at the entry of the block that it writes. -/
theorem pieces_index (x : Vec Ideal S4x64x1024 .f32) (c : Vec Ideal S1024x64 .f32) :
    (∀ i, storedIndex (indexOf (distOf (F := Ideal) c (View.ld x r0_7))) i = blockIndex x c (r0_8.emb i))
    ∧ (∀ i, storedIndex (indexOf (distOf (F := Ideal) c (View.ld x r0_5))) i = blockIndex x c (r0_6.emb i))
    ∧ (∀ i, storedIndex (indexOf (distOf (F := Ideal) c (View.ld x r0_3))) i = blockIndex x c (r0_4.emb i))
    ∧ ∀ i, storedIndex (indexOf (distOf (F := Ideal) c (View.ld x r0_1))) i = blockIndex x c (r0_2.emb i) :=
  ⟨piece_index x c 3 (by decide) inb_S4x64x1024_S1x64x1024_3_0_0 inb_S4x1x1024_S1x1x1024_3_0_0,
    piece_index x c 2 (by decide) inb_S4x64x1024_S1x64x1024_2_0_0 inb_S4x1x1024_S1x1x1024_2_0_0,
    piece_index x c 1 (by decide) inb_S4x64x1024_S1x64x1024_1_0_0 inb_S4x1x1024_S1x1x1024_1_0_0,
    piece_index x c 0 (by decide) inb_S4x64x1024_S1x64x1024_0_0_0 inb_S4x1x1024_S1x1x1024_0_0_0⟩

/-- The same of the four stores of vectors. -/
theorem pieces_rows (x : Vec Ideal S4x64x1024 .f32) (c : Vec Ideal S1024x64 .f32) :
    (∀ i, rowsOf (F := Ideal) c (indexOf (distOf (F := Ideal) c (View.ld x r0_7))) i = blockRows x c (r0_7.emb i))
    ∧ (∀ i, rowsOf (F := Ideal) c (indexOf (distOf (F := Ideal) c (View.ld x r0_5))) i = blockRows x c (r0_5.emb i))
    ∧ (∀ i, rowsOf (F := Ideal) c (indexOf (distOf (F := Ideal) c (View.ld x r0_3))) i = blockRows x c (r0_3.emb i))
    ∧ ∀ i, rowsOf (F := Ideal) c (indexOf (distOf (F := Ideal) c (View.ld x r0_1))) i = blockRows x c (r0_1.emb i) :=
  ⟨piece_rows x c 3 (by decide) inb_S4x64x1024_S1x64x1024_3_0_0 inb_S4x64x1024_S1x64x1024_3_0_0,
    piece_rows x c 2 (by decide) inb_S4x64x1024_S1x64x1024_2_0_0 inb_S4x64x1024_S1x64x1024_2_0_0,
    piece_rows x c 1 (by decide) inb_S4x64x1024_S1x64x1024_1_0_0 inb_S4x64x1024_S1x64x1024_1_0_0,
    piece_rows x c 0 (by decide) inb_S4x64x1024_S1x64x1024_0_0_0 inb_S4x64x1024_S1x64x1024_0_0_0⟩

/-- Four stores, one an image, that agree with one function leave that function in the block of positions. -/
theorem four_index (G : Vec Ideal S4x1x1024 .i32) (P3 P2 P1 P0 : Vec Ideal S1x1x1024 .i32)
    (h3 : ∀ i, P3 i = G (r0_8.emb i)) (h2 : ∀ i, P2 i = G (r0_6.emb i)) (h1 : ∀ i, P1 i = G (r0_4.emb i))
    (h0 : ∀ i, P0 i = G (r0_2.emb i)) :
    View.canon ([⟨r0_8, P3⟩, ⟨r0_6, P2⟩, ⟨r0_4, P1⟩, ⟨r0_2, P0⟩] : List (View.Piece (Elt Ideal) S4x1x1024 .i32)) = G := by
  funext y
  refine View.canon_apply_of_pieces G _ ?_ y (cover0_2 P3 P2 P1 P0 y)
  intro q hq
  simp only [List.mem_cons, List.not_mem_nil, or_false] at hq
  rcases hq with rfl | rfl | rfl | rfl
  · exact h3
  · exact h2
  · exact h1
  · exact h0

/-- Four stores, one an image, that agree with one function leave that function in the block of vectors. -/
theorem four_rows (G : Vec Ideal S4x64x1024 .f32) (P3 P2 P1 P0 : Vec Ideal S1x64x1024 .f32)
    (h3 : ∀ i, P3 i = G (r0_7.emb i)) (h2 : ∀ i, P2 i = G (r0_5.emb i)) (h1 : ∀ i, P1 i = G (r0_3.emb i))
    (h0 : ∀ i, P0 i = G (r0_1.emb i)) :
    View.canon ([⟨r0_7, P3⟩, ⟨r0_5, P2⟩, ⟨r0_3, P1⟩, ⟨r0_1, P0⟩] : List (View.Piece (Elt Ideal) S4x64x1024 .f32)) = G := by
  funext y
  refine View.canon_apply_of_pieces G _ ?_ y (cover0_3 P3 P2 P1 P0 y)
  intro q hq
  simp only [List.mem_cons, List.not_mem_nil, or_false] at hq
  rcases hq with rfl | rfl | rfl | rfl
  · exact h3
  · exact h2
  · exact h1
  · exact h0

/-- The block of positions that a grid point leaves. -/
theorem out_index (x : Vec Ideal S4x64x1024 .f32) (c : Vec Ideal S1024x64 .f32) : out0_2 x c = blockIndex x c := by
  obtain ⟨h3, h2, h1, h0⟩ := pieces_index x c
  exact (out_index_stages x c).trans (four_index (blockIndex x c) _ _ _ _ h3 h2 h1 h0)

/-- The block of vectors that a grid point leaves. -/
theorem out_rows (x : Vec Ideal S4x64x1024 .f32) (c : Vec Ideal S1024x64 .f32) : out0_3 x c = blockRows x c := by
  obtain ⟨h3, h2, h1, h0⟩ := pieces_rows x c
  exact (out_rows_stages x c).trans (four_rows (blockRows x c) _ _ _ _ h3 h2 h1 h0)

end Cert.Proof.Kernel

end
-- ==== Proof.Kernel.Arrays.lean ====
/-
  The kernel's two output arrays after the run: every grid point writes back the four images' worth that its block holds, and
  the blocks tile the arrays, so the arrays hold, for every image and pixel, the position of the nearest codebook vector and
  that vector.
-/
module

public import proofs.«01_k».proof.Proof.Kernel.Block

@[expose] public section

set_option maxRecDepth 16384

noncomputable section

namespace Cert.Proof.Kernel

open Cert.KernelIdeal Cert.KernelIdeal.Gen
open Idealize.ShloMosaic Idealize.ShloMosaic.TcCoe Idealize.SL.Sem
open Cert.Proof.Nearest

/-- For every image and pixel the position of the nearest codebook vector. -/
def arrayIndex (x : Vec Ideal S16x64x1024 .f32) (c : Vec Ideal S1024x64 .f32) : Vec Ideal S16x1x1024 .i32 :=
  fun y => BitVec.ofNat 32 (nearestTo c fun j => x (ix3 (y 0 : Fin 16) j (y 2 : Fin 1024))).val

/-- For every image and pixel the nearest codebook vector. -/
def arrayRows (x : Vec Ideal S16x64x1024 .f32) (c : Vec Ideal S1024x64 .f32) : Vec Ideal S16x64x1024 .f32 :=
  fun y => c (ix2 (nearestTo c fun j => x (ix3 (y 0 : Fin 16) j (y 2 : Fin 1024))) (y 1 : Fin 64))

variable (m : (ℓ : Loc nD τ sig) → Buf (Elt Ideal) ℓ) (c : Dev nD)

/-- Point `t` reads block `t` of the images, -/
theorem index0 : ∀ t : Fin cfg0.N, win0_0.index t (0 : Fin 3) = t.val ∧ win0_0.index t (1 : Fin 3) = 0
    ∧ win0_0.index t (2 : Fin 3) = 0 := (by decide +kernel : ∀ t : Fin grid0.N, _)

/-- the whole codebook, -/
theorem index1 : ∀ t : Fin cfg0.N, win0_1.index t (0 : Fin 2) = 0 ∧ win0_1.index t (1 : Fin 2) = 0 :=
  (by decide +kernel : ∀ t : Fin grid0.N, _)

/-- and writes block `t` of the positions, -/
theorem index2 : ∀ t : Fin cfg0.N, win0_2.index t (0 : Fin 3) = t.val ∧ win0_2.index t (1 : Fin 3) = 0
    ∧ win0_2.index t (2 : Fin 3) = 0 := (by decide +kernel : ∀ t : Fin grid0.N, _)

/-- and block `t` of the vectors. -/
theorem index3 : ∀ t : Fin cfg0.N, win0_3.index t (0 : Fin 3) = t.val ∧ win0_3.index t (1 : Fin 3) = 0
    ∧ win0_3.index t (2 : Fin 3) = 0 := (by decide +kernel : ∀ t : Fin grid0.N, _)

/-- Image `b` of point `t`'s block is an image of the array. -/
theorem image_lt (t : Fin cfg0.N) (b : Fin 4) : t.val * 4 + b.val < 16 := by
  have ht : t.val < 4 := lt_of_lt_of_eq t.isLt Gen.N_0
  omega

/-- The block of images at point `t`: image `b` of it is image `4 t + b` of the array. -/
theorem images_apply (t : Fin cfg0.N) (b : Fin 4) (j : Fin 64) (p : Fin 1024) :
    iblk m c 0 t (ix3 b j p) = V m c main_v0 (ix3 (⟨t.val * 4 + b.val, image_lt t b⟩ : Fin 16) j p) := by
  obtain ⟨e0, e1, e2⟩ := index0 t
  refine congrArg (V m c main_v0) (funext fun a => Fin.ext ?_)
  match a with
  | ⟨0, _⟩ => show win0_0.index t (0 : Fin 3) * 4 + 1 * b.val = t.val * 4 + b.val; omega
  | ⟨1, _⟩ => show win0_0.index t (1 : Fin 3) * 64 + 1 * j.val = j.val; omega
  | ⟨2, _⟩ => show win0_0.index t (2 : Fin 3) * 1024 + 1 * p.val = p.val; omega

/-- The block of the codebook at any point is the codebook. -/
theorem codebook_eq (t : Fin cfg0.N) : iblk m c 1 t = V m c main_arg1 := by
  obtain ⟨e0, e1⟩ := index1 t
  funext y
  refine congrArg (V m c main_arg1) (funext fun a => Fin.ext ?_)
  match a with
  | ⟨0, _⟩ => show win0_1.index t (0 : Fin 2) * 1024 + 1 * (y 0).val = (y 0).val; omega
  | ⟨1, _⟩ => show win0_1.index t (1 : Fin 2) * 64 + 1 * (y 1).val = (y 1).val; omega

/-- The entry of the array of positions under an entry of point `t`'s block. -/
theorem emb2 (t : Fin cfg0.N) (b : Fin 4) (z : Fin 1) (p : Fin 1024) :
    ((cfg0.win 2).blk t).view.emb (ix3 b z p) = ix3 (⟨t.val * 4 + b.val, image_lt t b⟩ : Fin 16) z p := by
  obtain ⟨e0, e1, e2⟩ := index2 t
  funext a; apply Fin.ext
  match a with
  | ⟨0, _⟩ => show win0_2.index t (0 : Fin 3) * 4 + 1 * b.val = t.val * 4 + b.val; omega
  | ⟨1, _⟩ => show win0_2.index t (1 : Fin 3) * 1 + 1 * z.val = z.val; omega
  | ⟨2, _⟩ => show win0_2.index t (2 : Fin 3) * 1024 + 1 * p.val = p.val; omega

/-- The entry of the array of vectors under an entry of point `t`'s block. -/
theorem emb3 (t : Fin cfg0.N) (b : Fin 4) (j : Fin 64) (p : Fin 1024) :
    ((cfg0.win 3).blk t).view.emb (ix3 b j p) = ix3 (⟨t.val * 4 + b.val, image_lt t b⟩ : Fin 16) j p := by
  obtain ⟨e0, e1, e2⟩ := index3 t
  funext a; apply Fin.ext
  match a with
  | ⟨0, _⟩ => show win0_3.index t (0 : Fin 3) * 4 + 1 * b.val = t.val * 4 + b.val; omega
  | ⟨1, _⟩ => show win0_3.index t (1 : Fin 3) * 64 + 1 * j.val = j.val; omega
  | ⟨2, _⟩ => show win0_3.index t (2 : Fin 3) * 1024 + 1 * p.val = p.val; omega

/-- The block of positions computed from the images at point `t` is that part of the array's positions. -/
theorem blockIndex_part (t : Fin cfg0.N) (b : Fin 4) (z : Fin 1) (p : Fin 1024) :
    blockIndex (iblk m c 0 t) (V m c main_arg1) (ix3 b z p)
      = arrayIndex (V m c main_v0) (V m c main_arg1) (ix3 (⟨t.val * 4 + b.val, image_lt t b⟩ : Fin 16) z p) :=
  congrArg (fun f => BitVec.ofNat 32 (nearestTo (V m c main_arg1) f).val) (funext fun j => images_apply m c t b j p)

/-- The same of the vectors. -/
theorem blockRows_part (t : Fin cfg0.N) (b : Fin 4) (j : Fin 64) (p : Fin 1024) :
    blockRows (iblk m c 0 t) (V m c main_arg1) (ix3 b j p)
      = arrayRows (V m c main_v0) (V m c main_arg1) (ix3 (⟨t.val * 4 + b.val, image_lt t b⟩ : Fin 16) j p) :=
  congrArg (fun f => V m c main_arg1 (ix2 (nearestTo (V m c main_arg1) f) j)) (funext fun l => images_apply m c t b l p)

/-- What point `t` writes back of the positions is its block of the array. -/
theorem flushed2_eq (t : Fin cfg0.N) : (dats m 0 c).flushed 2 t
    = ((cfg0.win 2).blk t).view.read (Elt Ideal) (arrayIndex (V m c main_v0) (V m c main_arg1)) := by
  show (cfg0.win 2).cut (grid0.coords t) ((dats m 0 c).after 2 t) = _
  rw [after0_2, out_index, codebook_eq]
  funext y
  idx_vars y
  show blockIndex (iblk m c 0 t) (V m c main_arg1) (ix3 y0 y1 y2)
    = arrayIndex (V m c main_v0) (V m c main_arg1) (((cfg0.win 2).blk t).view.emb (ix3 y0 y1 y2))
  rw [emb2, blockIndex_part]

/-- What point `t` writes back of the vectors is its block of the array. -/
theorem flushed3_eq (t : Fin cfg0.N) : (dats m 0 c).flushed 3 t
    = ((cfg0.win 3).blk t).view.read (Elt Ideal) (arrayRows (V m c main_v0) (V m c main_arg1)) := by
  show (cfg0.win 3).cut (grid0.coords t) ((dats m 0 c).after 3 t) = _
  rw [after0_3, out_rows, codebook_eq]
  funext y
  idx_vars y
  show blockRows (iblk m c 0 t) (V m c main_arg1) (ix3 y0 y1 y2)
    = arrayRows (V m c main_v0) (V m c main_arg1) (((cfg0.win 3).blk t).view.emb (ix3 y0 y1 y2))
  rw [emb3, blockRows_part]

/-- Every entry of the array of positions lies in the block of the point of its image. -/
theorem cover2 (i : S16x1x1024.Idx) :
    ∃ t : Fin cfg0.N, (cfg0.win 2).flush t = true ∧ i ∈ ((cfg0.win 2).blk t).view.set := by
  idx_vars i
  have hN : cfg0.N = 4 := N_0
  refine ⟨⟨i0.val / 4, by omega⟩, flush0_2 _, ?_⟩
  have h := ((cfg0.win 2).blk (⟨i0.val / 4, by omega⟩ : Fin cfg0.N)).view.emb_mem_set
    (ix3 (⟨i0.val % 4, by omega⟩ : Fin 4) i1 i2)
  rw [emb2] at h
  have e : (⟨i0.val / 4 * 4 + i0.val % 4, by omega⟩ : Fin 16) = i0 := Fin.ext (by show i0.val / 4 * 4 + i0.val % 4 = i0.val; omega)
  rwa [e] at h

/-- Every entry of the array of vectors lies in the block of the point of its image. -/
theorem cover3 (i : S16x64x1024.Idx) :
    ∃ t : Fin cfg0.N, (cfg0.win 3).flush t = true ∧ i ∈ ((cfg0.win 3).blk t).view.set := by
  idx_vars i
  have hN : cfg0.N = 4 := N_0
  refine ⟨⟨i0.val / 4, by omega⟩, flush0_3 _, ?_⟩
  have h := ((cfg0.win 3).blk (⟨i0.val / 4, by omega⟩ : Fin cfg0.N)).view.emb_mem_set
    (ix3 (⟨i0.val % 4, by omega⟩ : Fin 4) i1 i2)
  rw [emb3] at h
  have e : (⟨i0.val / 4 * 4 + i0.val % 4, by omega⟩ : Fin 16) = i0 := Fin.ext (by show i0.val / 4 * 4 + i0.val % 4 = i0.val; omega)
  rwa [e] at h

/-- The array of positions after the run. -/
theorem final2 : (dats m 0 c).arrAt 2 cfg0.N = arrayIndex (V m c main_v0) (V m c main_arg1) :=
  (dats m 0 c).arrAt_eq_of_cover 2 _ (fun t _ => flushed2_eq m c t) cover2

/-- The array of vectors after the run. -/
theorem final3 : (dats m 0 c).arrAt 3 cfg0.N = arrayRows (V m c main_v0) (V m c main_arg1) :=
  (dats m 0 c).arrAt_eq_of_cover 3 _ (fun t _ => flushed3_eq m c t) cover3

end Cert.Proof.Kernel

end
-- ==== Proof.Kernel.Run.lean ====
/-
  The kernel's run: its two results are the two arrays that the launch leaves, reshaped, and the launch reads the images
  reshaped; the arguments end unchanged.
-/
module

public import proofs.«01_k».proof.Proof.Kernel.Arrays

@[expose] public section

set_option maxRecDepth 16384

noncomputable section

namespace Cert.Proof.Kernel

open Cert.KernelIdeal Cert.KernelIdeal.Gen
open Idealize.ShloMosaic Idealize.ShloMosaic.TcCoe Idealize.ShloMosaic.StableHlo Idealize.SL.Sem
open Cert.Proof.Nearest

/-- The images with their pixels in one row. -/
def flatImages (x : FVec Ideal S16x64x32x32 .f32) : FVec Ideal S16x64x1024 .f32 :=
  shapeCast S16x64x1024 x shapeCasts_S16x64x32x32_S16x64x1024

/-- The kernel's first result: the positions in one column. -/
def indexColumn (i : IVec S16x1x1024 32) : IVec S16384x1 32 := shapeCast S16384x1 i shapeCasts_S16x1x1024_S16384x1

/-- The kernel's second result: the vectors as images. -/
def rowImages (q : FVec Ideal S16x64x1024 .f32) : FVec Ideal S16x64x32x32 .f32 :=
  shapeCast S16x64x32x32 q shapeCasts_S16x64x1024_S16x64x32x32

variable (m : (ℓ : Loc nD τ sig) → Buf (Elt Ideal) ℓ) (ρ : Dev nD → PrngReg)

/-- The launch finds the flattened images. -/
theorem V_images (c : Dev nD) : V m c main_v0 = flatImages (m ((c : Thread nD τ).loc main_arg0)) := by
  show StableHlo.after (List.flatten [hostOps0]) (fun b => m (c, b)) (Proc.devRef .tc main_v0) = _
  simp only [List.flatten_cons, List.flatten_nil, List.append_nil]
  after_results_simp
  rfl

/-- After the lines that follow the launch the first result is the array of positions in one column. -/
theorem tail_index (c : Dev nD) : Pipeline.afterTail₀ cfgs (dats m) 0 (V0 m) [hostOps1] c main_v2
    = indexColumn ((dats m 0 c).arrAt 2 cfg0.N) := by
  have h := Pipeline.withArrays_arr spec0 winFacts0.arr_inj c (V0 m c) (fun w => (dats m 0 c).arrAt w cfg0.N) 2
  unfold Pipeline.afterTail₀
  simp only [List.flatten_cons, List.flatten_nil, List.append_nil]
  after_results_simp
  exact congrArg indexColumn h

/-- After the lines that follow the launch the second result is the array of vectors as images. -/
theorem tail_rows (c : Dev nD) : Pipeline.afterTail₀ cfgs (dats m) 0 (V0 m) [hostOps1] c main_v3
    = rowImages ((dats m 0 c).arrAt 3 cfg0.N) := by
  have h := Pipeline.withArrays_arr spec0 winFacts0.arr_inj c (V0 m c) (fun w => (dats m 0 c).arrAt w cfg0.N) 3
  unfold Pipeline.afterTail₀
  simp only [List.flatten_cons, List.flatten_nil, List.append_nil]
  after_results_simp
  exact congrArg rowImages h

/-- The kernel's first result as a function of its arguments. -/
def indexOut (x : FVec Ideal S16x64x32x32 .f32) (c : FVec Ideal S1024x64 .f32) : IVec S16384x1 32 :=
  indexColumn (arrayIndex (flatImages x) c)

/-- The kernel's second result as a function of its arguments. -/
def rowOut (x : FVec Ideal S16x64x32x32 .f32) (c : FVec Ideal S1024x64 .f32) : FVec Ideal S16x64x32x32 .f32 :=
  rowImages (arrayRows (flatImages x) c)

/-- The kernel's run: both results at their functions of the arguments, the arguments unchanged. -/
theorem run : θ_run defs (onTc (τ := τ) (main (F := Ideal))) ⟨m, fun _ => 0, ρ⟩ fun r => ∀ c : Dev nD,
      r.2.mem ((c : Thread nD τ).loc main_v2)
        = indexOut (m ((c : Thread nD τ).loc main_arg0)) (m ((c : Thread nD τ).loc main_arg1))
      ∧ r.2.mem ((c : Thread nD τ).loc main_v3)
        = rowOut (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨
      (((h c).2 main_v2 (Pipeline.mem_restRefs_of main_v2 (by decide) (by decide))).trans (tail_index m c)).trans
        (by rw [final2, V_images, V_main_arg1]; rfl),
      (((h c).2 main_v3 (Pipeline.mem_restRefs_of main_v3 (by decide) (by decide))).trans (tail_rows m c)).trans
        (by rw [final3, V_images, V_main_arg1]; rfl),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩) (run_main m ρ)

/-- The first result at row `n`: the position of the vector nearest to the pixel of that row. -/
theorem indexOut_apply (x : FVec Ideal S16x64x32x32 .f32) (c : FVec Ideal S1024x64 .f32) (n : Fin 16384) (z : Fin 1) :
    indexOut x c (ix2 n z) = BitVec.ofNat 32 (nearestTo c fun j => x (ix4 (⟨n.val / 1024, by omega⟩ : Fin 16) j
      (⟨n.val / 32 % 32, by omega⟩ : Fin 32) (⟨n.val % 32, by omega⟩ : Fin 32))).val := by
  have e : ∀ q : IVec S16x1x1024 32, indexColumn q (ix2 n z)
      = q (ix3 (⟨n.val / 1024, by omega⟩ : Fin 16) (0 : Fin 1) (⟨n.val % 1024, by omega⟩ : Fin 1024)) := by
    intro q
    pointwise [indexColumn]
  unfold indexOut
  rw [e]
  show BitVec.ofNat 32 (nearestTo c fun j => flatImages x (ix3 (⟨n.val / 1024, by omega⟩ : Fin 16) j
    (⟨n.val % 1024, by omega⟩ : Fin 1024))).val = _
  have f : ∀ j : Fin 64, flatImages x (ix3 (⟨n.val / 1024, by omega⟩ : Fin 16) j (⟨n.val % 1024, by omega⟩ : Fin 1024))
      = x (ix4 (⟨n.val / 1024, by omega⟩ : Fin 16) j (⟨n.val / 32 % 32, by omega⟩ : Fin 32) (⟨n.val % 32, by omega⟩ : Fin 32)) := by
    intro j
    pointwise [flatImages]
    have h1 : (⟨n.val % 1024 / 32, by omega⟩ : Fin 32) = ⟨n.val / 32 % 32, by omega⟩ :=
      Fin.ext (by show n.val % 1024 / 32 = n.val / 32 % 32; omega)
    have h2 : (⟨n.val % 1024 % 32, by omega⟩ : Fin 32) = ⟨n.val % 32, by omega⟩ :=
      Fin.ext (by show n.val % 1024 % 32 = n.val % 32; omega)
    rw [h1, h2]
  simp only [f]

/-- The second result at channel `j` of the pixel at row `h`, column `w` of image `b`: channel `j` of the vector nearest to that
    pixel. -/
theorem rowOut_apply (x : FVec Ideal S16x64x32x32 .f32) (c : FVec Ideal S1024x64 .f32) (b : Fin 16) (j : Fin 64) (h w : Fin 32) :
    rowOut x c (ix4 b j h w) = c (ix2 (nearestTo c fun l => x (ix4 b l h w)) j) := by
  have e : ∀ q : FVec Ideal S16x64x1024 .f32, rowImages q (ix4 b j h w)
      = q (ix3 b j (⟨h.val * 32 + w.val, by omega⟩ : Fin 1024)) := by
    intro q
    pointwise [rowImages]
  unfold rowOut
  rw [e]
  show c (ix2 (nearestTo c fun l => flatImages x (ix3 b l (⟨h.val * 32 + w.val, by omega⟩ : Fin 1024))) j) = _
  have f : ∀ l : Fin 64, flatImages x (ix3 b l (⟨h.val * 32 + w.val, by omega⟩ : Fin 1024)) = x (ix4 b l h w) := by
    intro l
    pointwise [flatImages]
  simp only [f]

end Cert.Proof.Kernel

end
-- ==== Proof.Reference.Ops.lean ====
/-
  The reference's run, as a straight line of tensor operations. `distOps` computes the (16384, 1024) table of squared
  distances, `minOps` the index of the first least entry of every row (the called @argmin) and its two reshapes, `takeOps`
  the row of the codebook at that index (the called @_take) and its move back to the images' layout. The program is these
  three lists run in order (`main_eq`), so every buffer ends at the operations' results folded over the launch contents
  (`run_after`).
-/
module

public import proofs.«01_k».proof.Proof.Gen.ReferenceIdeal
public import Idealize.ShloMosaic.Lib.StableHlo.Run
public import Idealize.ShloMosaic.Lib.Pipeline.Frame

@[expose] public section

set_option maxRecDepth 16384

noncomputable section

namespace Cert.Proof.Reference

open Cert.ReferenceIdeal Cert.ReferenceIdeal.Gen
open Idealize.ShloMosaic Idealize.ShloMosaic.TcCoe Idealize.ShloMosaic.StableHlo Idealize.SL.Sem

variable {F : FTy → Type} [FloatOps F]

/-- The operations up to the table of squared distances, `%15`. -/
abbrev distOps : List (HloOp τ sig (Elt F)) :=
  [ unary main_arg0 main_v0 ((transpose S16x32x32x64 [0, 2, 3, 1] · transposes_S16x64x32x32_S16x32x32x64_0_2_3_1) : (⟨S16x64x32x32, .f32⟩ : BufTy).Contents (Elt F) → (⟨S16x32x32x64, .f32⟩ : BufTy).Contents (Elt F)),
    reshape main_v0 main_v1 (rfl : (.f32 : EltTy) = .f32) shapeCasts_S16x32x32x64_S16384x64,
    binary main_v1 main_v1 main_v2 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v2 main_cst main_v3 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v3 main_v4 (broadcastInDim S16384x1 ![0] bcast_S16384_S16384x1_0 : (⟨S16384, .f32⟩ : BufTy).Contents (Elt F) → (⟨S16384x1, .f32⟩ : BufTy).Contents (Elt F)),
    binary main_arg1 main_arg1 main_v5 (mulf : (⟨S1024x64, .f32⟩ : BufTy).Contents (Elt F) → (⟨S1024x64, .f32⟩ : BufTy).Contents (Elt F) → (⟨S1024x64, .f32⟩ : BufTy).Contents (Elt F)),
    nullary main_cst_0 (constant S_ .f32 0x00000000#32),
    binary main_v5 main_cst_0 main_v6 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v6 main_v7 (broadcastInDim S1x1024 ![1] bcast_S1024_S1x1024_1 : (⟨S1024, .f32⟩ : BufTy).Contents (Elt F) → (⟨S1x1024, .f32⟩ : BufTy).Contents (Elt F)),
    unary main_v4 main_v8 (broadcastInDim S16384x1024 ![0, 1] bcast_S16384x1_S16384x1024_0_1 : (⟨S16384x1, .f32⟩ : BufTy).Contents (Elt F) → (⟨S16384x1024, .f32⟩ : BufTy).Contents (Elt F)),
    unary main_v7 main_v9 (broadcastInDim S16384x1024 ![0, 1] bcast_S1x1024_S16384x1024_0_1 : (⟨S1x1024, .f32⟩ : BufTy).Contents (Elt F) → (⟨S16384x1024, .f32⟩ : BufTy).Contents (Elt F)),
    binary main_v8 main_v9 main_v10 (addf : (⟨S16384x1024, .f32⟩ : BufTy).Contents (Elt F) → (⟨S16384x1024, .f32⟩ : BufTy).Contents (Elt F) → (⟨S16384x1024, .f32⟩ : BufTy).Contents (Elt F)),
    unary main_arg1 main_v11 ((transpose S64x1024 [1, 0] · transposes_S1024x64_S64x1024_1_0) : (⟨S1024x64, .f32⟩ : BufTy).Contents (Elt F) → (⟨S64x1024, .f32⟩ : BufTy).Contents (Elt F)),
    binary main_v1 main_v11 main_v12 ((fun l r => Host.dotGeneral dot_S16384x64_S64x1024_S16384x1024_1_0_0_1_n_n none l r) : (⟨S16384x64, .f32⟩ : BufTy).Contents (Elt F) → (⟨S64x1024, .f32⟩ : BufTy).Contents (Elt F) → (⟨S16384x1024, .f32⟩ : BufTy).Contents (Elt F)),
    nullary main_cst_1 (constant S_ .f32 0x40000000#32),
    unary main_cst_1 main_v13 (broadcastInDim S16384x1024 ![] bcast_S_S16384x1024 : (⟨S_, .f32⟩ : BufTy).Contents (Elt F) → (⟨S16384x1024, .f32⟩ : BufTy).Contents (Elt F)),
    binary main_v13 main_v12 main_v14 (mulf : (⟨S16384x1024, .f32⟩ : BufTy).Contents (Elt F) → (⟨S16384x1024, .f32⟩ : BufTy).Contents (Elt F) → (⟨S16384x1024, .f32⟩ : BufTy).Contents (Elt F)),
    binary main_v10 main_v14 main_v15 (subf : (⟨S16384x1024, .f32⟩ : BufTy).Contents (Elt F) → (⟨S16384x1024, .f32⟩ : BufTy).Contents (Elt F) → (⟨S16384x1024, .f32⟩ : BufTy).Contents (Elt F)) ]

/-- The operations of @argmin and of the two reshapes after it: the index `%16`, as a column `%17` and as a row `%18`. -/
abbrev minOps : List (HloOp τ sig (Elt F)) :=
  [ nullary main_call0_v0 (iotaInDim S16384x1024 32 1 : (⟨S16384x1024, .i32⟩ : BufTy).Contents (Elt F)),
    nullary main_call0_cst (constant S_ .f32 0x7F800000#32 : (⟨S_, .f32⟩ : BufTy).Contents (Elt F)),
    nullary main_call0_c (constantI S_ 32 0#32 : (⟨S_, .i32⟩ : BufTy).Contents (Elt F)),
    quaternary main_v15 main_call0_v0 main_call0_cst main_call0_c main_call0_v1_0 (fun x y u v j => (Host.argReduce reducer_argmin_f32_i32 x y u v reducesTo_S16384x1024_S16384_d1 h_S_ j).1 : (⟨S16384x1024, .f32⟩ : BufTy).Contents (Elt F) → (⟨S16384x1024, .i32⟩ : BufTy).Contents (Elt F) → (⟨S_, .f32⟩ : BufTy).Contents (Elt F) → (⟨S_, .i32⟩ : BufTy).Contents (Elt F) → (⟨S16384, .f32⟩ : BufTy).Contents (Elt F)),
    quaternary main_v15 main_call0_v0 main_call0_cst main_call0_c main_v16 (fun x y u v j => (Host.argReduce reducer_argmin_f32_i32 x y u v reducesTo_S16384x1024_S16384_d1 h_S_ j).2 : (⟨S16384x1024, .f32⟩ : BufTy).Contents (Elt F) → (⟨S16384x1024, .i32⟩ : BufTy).Contents (Elt F) → (⟨S_, .f32⟩ : BufTy).Contents (Elt F) → (⟨S_, .i32⟩ : BufTy).Contents (Elt F) → (⟨S16384, .i32⟩ : BufTy).Contents (Elt F)),
    unary main_v16 main_v17 (broadcastInDim S16384x1 ![0] bcast_S16384_S16384x1_0 : (⟨S16384, .i32⟩ : BufTy).Contents (Elt F) → (⟨S16384x1, .i32⟩ : BufTy).Contents (Elt F)),
    reshape main_v17 main_v18 (rfl : (.i32 : EltTy) = .i32) shapeCasts_S16384x1_S16384 ]

/-- The operations of @_take and of the move back to the layout of the images: `%19` to `%21`. -/
abbrev takeOps : List (HloOp τ sig (Elt F)) :=
  [ nullary main_call1_c (constantI S_ 32 0#32 : (⟨S_, .i32⟩ : BufTy).Contents (Elt F)),
    unary main_call1_c main_call1_v0 (broadcastInDim S16384 ![] bcast_S_S16384 : (⟨S_, .i32⟩ : BufTy).Contents (Elt F) → (⟨S16384, .i32⟩ : BufTy).Contents (Elt F)),
    binary main_v18 main_call1_v0 main_call1_v1 (cmpi .slt : (⟨S16384, .i32⟩ : BufTy).Contents (Elt F) → (⟨S16384, .i32⟩ : BufTy).Contents (Elt F) → (⟨S16384, .i1⟩ : BufTy).Contents (Elt F)),
    nullary main_call1_c_0 (constantI S_ 32 1024#32 : (⟨S_, .i32⟩ : BufTy).Contents (Elt F)),
    unary main_call1_c_0 main_call1_v2 (broadcastInDim S16384 ![] bcast_S_S16384 : (⟨S_, .i32⟩ : BufTy).Contents (Elt F) → (⟨S16384, .i32⟩ : BufTy).Contents (Elt F)),
    binary main_v18 main_call1_v2 main_call1_v3 (addi : (⟨S16384, .i32⟩ : BufTy).Contents (Elt F) → (⟨S16384, .i32⟩ : BufTy).Contents (Elt F) → (⟨S16384, .i32⟩ : BufTy).Contents (Elt F)),
    ternary main_call1_v1 main_call1_v3 main_v18 main_call1_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call1_v4 main_call1_v5 (broadcastInDim S16384x1 ![0] bcast_S16384_S16384x1_0 : (⟨S16384, .i32⟩ : BufTy).Contents (Elt F) → (⟨S16384x1, .i32⟩ : BufTy).Contents (Elt F)),
    nullary main_call1_c_1 (constantI S1 32 1023#32 : (⟨S1, .i32⟩ : BufTy).Contents (Elt F)),
    nullary main_call1_c_2 (constantI S_ 32 0#32 : (⟨S_, .i32⟩ : BufTy).Contents (Elt F)),
    unary main_call1_c_2 main_call1_v6 (broadcastInDim S16384x1 ![] bcast_S_S16384x1 : (⟨S_, .i32⟩ : BufTy).Contents (Elt F) → (⟨S16384x1, .i32⟩ : BufTy).Contents (Elt F)),
    binary main_call1_v5 main_call1_v6 main_call1_v7 (cmpi .sge : (⟨S16384x1, .i32⟩ : BufTy).Contents (Elt F) → (⟨S16384x1, .i32⟩ : BufTy).Contents (Elt F) → (⟨S16384x1, .i1⟩ : BufTy).Contents (Elt F)),
    unary main_call1_c_1 main_call1_v8 (broadcastInDim S1x1 ![1] bcast_S1_S1x1_1 : (⟨S1, .i32⟩ : BufTy).Contents (Elt F) → (⟨S1x1, .i32⟩ : BufTy).Contents (Elt F)),
    unary main_call1_v8 main_call1_v9 (broadcastInDim S16384x1 ![0, 1] bcast_S1x1_S16384x1_0_1 : (⟨S1x1, .i32⟩ : BufTy).Contents (Elt F) → (⟨S16384x1, .i32⟩ : BufTy).Contents (Elt F)),
    binary main_call1_v5 main_call1_v9 main_call1_v10 (cmpi .sle : (⟨S16384x1, .i32⟩ : BufTy).Contents (Elt F) → (⟨S16384x1, .i32⟩ : BufTy).Contents (Elt F) → (⟨S16384x1, .i1⟩ : BufTy).Contents (Elt F)),
    binary main_call1_v7 main_call1_v10 main_call1_v11 (andi : (⟨S16384x1, .i1⟩ : BufTy).Contents (Elt F) → (⟨S16384x1, .i1⟩ : BufTy).Contents (Elt F) → (⟨S16384x1, .i1⟩ : BufTy).Contents (Elt F)),
    nullary main_call1_c_3 (constantI S_ 1 1#1 : (⟨S_, .i1⟩ : BufTy).Contents (Elt F)),
    binary main_call1_v11 main_call1_c_3 main_call1_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_arg1 main_call1_v5 main_call1_v13 (fun x i => Host.gather gather_S1024x64_S16384x1_S16384x64_1_0_n_n_0_1_164 x i : (⟨S1024x64, .f32⟩ : BufTy).Contents (Elt F) → (⟨S16384x1, .i32⟩ : BufTy).Contents (Elt F) → (⟨S16384x64, .f32⟩ : BufTy).Contents (Elt F)),
    unary main_call1_v12 main_call1_v14 (broadcastInDim S16384x64 ![0] bcast_S16384_S16384x64_0 : (⟨S16384, .i1⟩ : BufTy).Contents (Elt F) → (⟨S16384x64, .i1⟩ : BufTy).Contents (Elt F)),
    nullary main_call1_cst (constant S_ .f32 0x7FC00000#32 : (⟨S_, .f32⟩ : BufTy).Contents (Elt F)),
    unary main_call1_cst main_call1_v15 (broadcastInDim S16384x64 ![] bcast_S_S16384x64 : (⟨S_, .f32⟩ : BufTy).Contents (Elt F) → (⟨S16384x64, .f32⟩ : BufTy).Contents (Elt F)),
    ternary main_call1_v14 main_call1_v13 main_call1_v15 main_v19 (select : (⟨S16384x64, .i1⟩ : BufTy).Contents (Elt F) → (⟨S16384x64, .f32⟩ : BufTy).Contents (Elt F) → (⟨S16384x64, .f32⟩ : BufTy).Contents (Elt F) → (⟨S16384x64, .f32⟩ : BufTy).Contents (Elt F)),
    reshape main_v19 main_v20 (rfl : (.f32 : EltTy) = .f32) shapeCasts_S16384x64_S16x32x32x64,
    unary main_v20 main_v21 ((transpose S16x64x32x32 [0, 3, 1, 2] · transposes_S16x32x32x64_S16x64x32x32_0_3_1_2) : (⟨S16x32x32x64, .f32⟩ : BufTy).Contents (Elt F) → (⟨S16x64x32x32, .f32⟩ : BufTy).Contents (Elt F)) ]

/-- The whole program, in order. -/
abbrev ops : List (HloOp τ sig (Elt F)) := distOps ++ (minOps ++ takeOps)

set_option maxRecDepth 65536 in
/-- The program is that straight line. -/
theorem main_eq (c : Dev nD) : main (F := F) c = seq ops := rfl

/-- The reference scopes no buffer, -/
theorem scopedRefs_eq : (Finset.univ.filter fun b : Ref sig .tc => b.isScoped) = ∅ := by decide
/-- and no semaphore. -/
theorem scopedSems_eq : (Finset.univ.filter fun sm : SemLoc sig => sm.isScoped .tc) = ∅ := by decide

/-- Every operation of the first list touches TensorCore references only, -/
theorem distOps_sub : (distOps : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩
/-- every operation of the second, -/
theorem minOps_sub : (minOps : List (HloOp τ sig (Elt F))).Forall fun op => op.bufs ⊆ tcRefs τ sig :=
  ⟨nullary_bufs_sub .., nullary_bufs_sub .., nullary_bufs_sub .., quaternary_bufs_sub .., quaternary_bufs_sub .., unary_bufs_sub .., reshape_bufs_sub ..⟩
/-- and every operation of the third. -/
theorem takeOps_sub : (takeOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub ..⟩

/-- So does every operation of the program. -/
theorem ops_sub : (ops : List (HloOp τ sig (Elt F))).Forall fun op => op.bufs ⊆ tcRefs τ sig :=
  List.forall_append.mpr ⟨distOps_sub, List.forall_append.mpr ⟨minOps_sub, takeOps_sub⟩⟩

/-- From any memory with zero counters every weakly fair execution of the reference terminates, and each of its buffers
    ends at what the three lists in order leave in it. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after takeOps (after minOps (after distOps (launchContents m c))) (b : DevRef τ sig) :=
  (θ_run defs _ _).mono (fun _ h c b => (h c b).trans (by
      show after (distOps ++ (minOps ++ takeOps)) _ _ = _
      rw [StableHlo.after_append, StableHlo.after_append]))
    (run_seq scopedRefs_eq scopedSems_eq defs main (fun _ => ops) main_eq (fun _ => ops_sub) m ρ)

end Cert.Proof.Reference

end
-- ==== Proof.Reference.Value.lean ====
/-
  What the reference's buffers hold, stage by stage, as terms over its two arguments: `distTable` (the table of squared
  distances), `minIndex` (the index of the first least entry of every row), `takenRows` (the row of the codebook at every
  index) and `asImages` (those rows in the layout of the images). `run` is the reference's run with its two results at these
  terms and its arguments unchanged.
-/
module

public import proofs.«01_k».proof.Proof.Reference.Ops

@[expose] public section

set_option maxRecDepth 16384

noncomputable section

namespace Cert.Proof.Reference

open Cert.ReferenceIdeal Cert.ReferenceIdeal.Gen
open Idealize.ShloMosaic Idealize.ShloMosaic.TcCoe Idealize.ShloMosaic.StableHlo Idealize.SL.Sem

variable {F : FTy → Type} [FloatOps F]

/-- The pixels as rows: the channel axis last, the other three merged. -/
def pixelRows (x : FVec F S16x64x32x32 .f32) : FVec F S16384x64 .f32 :=
  shapeCast S16384x64 (transpose S16x32x32x64 [0, 2, 3, 1] x transposes_S16x64x32x32_S16x32x32x64_0_2_3_1)
    shapeCasts_S16x32x32x64_S16384x64

/-- The table of squared distances: pixel row against codebook row. -/
def distTable (x : FVec F S16x64x32x32 .f32) (c : FVec F S1024x64 .f32) : FVec F S16384x1024 .f32 :=
  subf
    (addf
      (broadcastInDim S16384x1024 ![0, 1] bcast_S16384x1_S16384x1024_0_1
        (broadcastInDim S16384x1 ![0] bcast_S16384_S16384x1_0
          (Host.reduceAdd (mulf (pixelRows x) (pixelRows x)) (constant S_ .f32 0x00000000#32)
            reducesTo_S16384x64_S16384_d1 h_S_)))
      (broadcastInDim S16384x1024 ![0, 1] bcast_S1x1024_S16384x1024_0_1
        (broadcastInDim S1x1024 ![1] bcast_S1024_S1x1024_1
          (Host.reduceAdd (mulf c c) (constant S_ .f32 0x00000000#32) reducesTo_S1024x64_S1024_d1 h_S_))))
    (mulf (broadcastInDim S16384x1024 ![] bcast_S_S16384x1024 (constant S_ .f32 0x40000000#32))
      (Host.dotGeneral dot_S16384x64_S64x1024_S16384x1024_1_0_0_1_n_n none (pixelRows x)
        (transpose S64x1024 [1, 0] c transposes_S1024x64_S64x1024_1_0)))

/-- The pair that the reduction of a row ends with: its least entry and that entry's index. -/
def minPair (d : FVec F S16384x1024 .f32) (j : S16384.Idx) : F .f32 × BitVec 32 :=
  Host.argReduce reducer_argmin_f32_i32 d (iotaInDim S16384x1024 32 1) (constant S_ .f32 0x7F800000#32)
    (constantI S_ 32 0#32) reducesTo_S16384x1024_S16384_d1 h_S_ j

/-- The index of the first least entry of every row of a table. -/
def minIndex (d : FVec F S16384x1024 .f32) : IVec S16384 32 := fun j => (minPair d j).2

/-- The indices as a column. -/
def asColumn (i : IVec S16384 32) : IVec S16384x1 32 := broadcastInDim S16384x1 ![0] bcast_S16384_S16384x1_0 i

/-- The indices a lookup reads at: a negative one counts from the end. -/
def wrapped (i : IVec S16384 32) : IVec S16384x1 32 :=
  asColumn (select (cmpi .slt i (broadcastInDim S16384 ![] bcast_S_S16384 (constantI S_ 32 0#32)))
    (addi i (broadcastInDim S16384 ![] bcast_S_S16384 (constantI S_ 32 1024#32))) i)

/-- Whether an index is a row of the codebook. -/
def inRange (i : IVec S16384 32) : IVec S16384 1 :=
  Host.reduce IntOp.andi
    (andi (cmpi .sge (wrapped i) (broadcastInDim S16384x1 ![] bcast_S_S16384x1 (constantI S_ 32 0#32)))
      (cmpi .sle (wrapped i) (broadcastInDim S16384x1 ![0, 1] bcast_S1x1_S16384x1_0_1
        (broadcastInDim S1x1 ![1] bcast_S1_S1x1_1 (constantI S1 32 1023#32)))))
    (constantI S_ 1 1#1) reducesTo_S16384x1_S16384_d1 h_S_

/-- The rows of the codebook at the indices, and the filler constant at an index out of range. -/
def takenRows (c : FVec F S1024x64 .f32) (i : IVec S16384 32) : FVec F S16384x64 .f32 :=
  select (broadcastInDim S16384x64 ![0] bcast_S16384_S16384x64_0 (inRange i))
    (Host.gather gather_S1024x64_S16384x1_S16384x64_1_0_n_n_0_1_164 c (wrapped i))
    (broadcastInDim S16384x64 ![] bcast_S_S16384x64 (constant S_ .f32 0x7FC00000#32))

/-- Rows of pixels back in the layout of the images. -/
def asImages (q : FVec F S16384x64 .f32) : FVec F S16x64x32x32 .f32 :=
  transpose S16x64x32x32 [0, 3, 1, 2] (shapeCast S16x32x32x64 q shapeCasts_S16384x64_S16x32x32x64)
    transposes_S16x32x32x64_S16x64x32x32_0_3_1_2

section Stages

variable (V : Valuation τ sig (Elt F))

/-- The first list leaves the table of squared distances in `%15`, -/
theorem dist_read : after distOps V (main_v15 : DevRef τ sig)
    = distTable (V (main_arg0 : DevRef τ sig)) (V (main_arg1 : DevRef τ sig)) := by
  after_results_simp
  rfl

/-- and both arguments as they were. -/
theorem dist_arg0 : after distOps V (main_arg0 : DevRef τ sig) = V (main_arg0 : DevRef τ sig) := by after_results_simp
/-- the codebook too. -/
theorem dist_arg1 : after distOps V (main_arg1 : DevRef τ sig) = V (main_arg1 : DevRef τ sig) := by after_results_simp

/-- The second list leaves the column of indices in `%17`, -/
theorem min_read17 : after minOps V (main_v17 : DevRef τ sig)
    = asColumn (minIndex (V (main_v15 : DevRef τ sig))) := by
  after_results_simp
  rfl

/-- the row of indices in `%18`, -/
theorem min_read18 : after minOps V (main_v18 : DevRef τ sig)
    = shapeCast S16384 (asColumn (minIndex (V (main_v15 : DevRef τ sig)))) shapeCasts_S16384x1_S16384 := by
  after_results_simp
  rfl

/-- and both arguments as they were. -/
theorem min_arg0 : after minOps V (main_arg0 : DevRef τ sig) = V (main_arg0 : DevRef τ sig) := by after_results_simp
/-- the codebook too. -/
theorem min_arg1 : after minOps V (main_arg1 : DevRef τ sig) = V (main_arg1 : DevRef τ sig) := by after_results_simp

/-- The third list leaves the codebook rows, as images, in `%21`, -/
theorem take_read : after takeOps V (main_v21 : DevRef τ sig)
    = asImages (takenRows (V (main_arg1 : DevRef τ sig)) (V (main_v18 : DevRef τ sig))) := by
  after_results_simp
  rfl

/-- and `%17` and both arguments as they were. -/
theorem take_17 : after takeOps V (main_v17 : DevRef τ sig) = V (main_v17 : DevRef τ sig) := by after_results_simp
/-- The third list leaves the images as they were, -/
theorem take_arg0 : after takeOps V (main_arg0 : DevRef τ sig) = V (main_arg0 : DevRef τ sig) := by after_results_simp
/-- the codebook too. -/
theorem take_arg1 : after takeOps V (main_arg1 : DevRef τ sig) = V (main_arg1 : DevRef τ sig) := by after_results_simp

end Stages

/-- The reference's first result: the column of indices. -/
def indexResult (x : FVec F S16x64x32x32 .f32) (c : FVec F S1024x64 .f32) : IVec S16384x1 32 :=
  asColumn (minIndex (distTable x c))

/-- The reference's second result: the codebook rows at the indices, as images. -/
def rowResult (x : FVec F S16x64x32x32 .f32) (c : FVec F S1024x64 .f32) : FVec F S16x64x32x32 .f32 :=
  asImages (takenRows c (shapeCast S16384 (indexResult x c) shapeCasts_S16384x1_S16384))

/-- The reference's run: from any memory with zero counters every weakly fair execution terminates with the two results at
    `indexResult` and `rowResult` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17)
          = indexResult (m ((c.tc : Thread nD τ).loc main_arg0)) (m ((c.tc : Thread nD τ).loc main_arg1))
      ∧ r.2.mem ((c.tc : Thread nD τ).loc main_v21)
          = rowResult (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    refine ⟨(h c main_v17).trans ?_, (h c main_v21).trans ?_, (h c main_arg0).trans ?_, (h c main_arg1).trans ?_⟩
    · rw [take_17, min_read17, dist_read]; rfl
    · rw [take_read, min_arg1, dist_arg1, min_read18, dist_read]; rfl
    · rw [take_arg0, min_arg0, dist_arg0]
    · rw [take_arg1, min_arg1, dist_arg1]) (run_after m ρ)

end Cert.Proof.Reference

end
-- ==== Proof.Reference.Dist.lean ====
/-
  The reference's table of squared distances read at an entry: row `n`, column `k` is the squared distance of pixel `n` to
  codebook vector `k`.
-/
module

public import proofs.«01_k».proof.Proof.Reference.Value
public import proofs.«01_k».proof.Proof.Nearest

@[expose] public section

set_option maxRecDepth 16384

noncomputable section

namespace Cert.Proof.Reference

open Cert.ReferenceIdeal Cert.ReferenceIdeal.Gen
open Idealize.ShloMosaic Idealize.SL.Sem
open Cert.Proof.Nearest

/-- The word of `2.0` is the extended real two. -/
theorem ofBits_two : Ideal.ofBits .f32 0x40000000#32 = 2 := by
  rw [show (2 : EReal) = ((2 : ℝ) : EReal) by norm_cast]
  simp [Ideal.ofBits, Ideal.ieee, -EReal.coe_mul]; norm_num

/-- Pixel `n` of the images, channel by channel: image `n / 1024`, row `n / 32 % 32`, column `n % 32`. -/
def pixel (x : FVec Ideal S16x64x32x32 .f32) (n : Fin 16384) (j : Fin 64) : EReal :=
  x (ix4 (⟨n.val / 1024, by omega⟩ : Fin 16) j (⟨n.val / 32 % 32, by omega⟩ : Fin 32) (⟨n.val % 32, by omega⟩ : Fin 32))

/-- Vector `k` of the codebook. -/
def code (c : FVec Ideal S1024x64 .f32) (k : Fin 1024) (j : Fin 64) : EReal := c (ix2 k j)

/-- Row `n` of the pixel rows is pixel `n`. -/
theorem pixelRows_apply (x : FVec Ideal S16x64x32x32 .f32) (n : Fin 16384) (j : Fin 64) :
    pixelRows x (ix2 n j) = pixel x n j := by
  pointwise [pixelRows, pixel]

/-- Entry `(n, k)` of the table is the squared distance of pixel `n` to codebook vector `k`. -/
theorem distTable_apply (x : FVec Ideal S16x64x32x32 .f32) (c : FVec Ideal S1024x64 .f32) (n : Fin 16384) (k : Fin 1024) :
    distTable x c (ix2 n k) = sqDist (pixel x n) (code c k) := by
  pointwise [distTable]
  simp only [pixelRows_apply, ofBits_two]
  rfl

end Cert.Proof.Reference

end
-- ==== Proof.Reference.Index.lean ====
/-
  The reference's first result read at an entry: the index of row `n` is the position of the first least entry of that row of
  the table of squared distances.
-/
module

public import proofs.«01_k».proof.Proof.Reference.Dist

@[expose] public section

set_option maxRecDepth 16384

noncomputable section

namespace Cert.Proof.Reference

open Cert.ReferenceIdeal Cert.ReferenceIdeal.Gen
open Idealize.ShloMosaic Idealize.SL.Sem
open Cert.Proof.Nearest

/-- The word of `+∞` is the greatest extended real. -/
theorem ofBits_top : Ideal.ofBits .f32 0x7F800000#32 = ⊤ := by simp [Ideal.ofBits, Ideal.ieee]

/-- A set bit or any bit is set. -/
theorem ori_one (b : BitVec 1) : IntOp.ori 1#1 b = 1#1 := by revert b; decide

/-- Two clear bits give a clear one. -/
theorem ori_zero : IntOp.ori (0#1) (0#1) = 0#1 := rfl

/-- The reducer returns one of its two pairs, and that one comes no later than either. -/
theorem reducer_lex (a b : EReal × BitVec 32) :
    (reducer_argmin_f32_i32 (F := Ideal) a b = a ∨ reducer_argmin_f32_i32 (F := Ideal) a b = b)
      ∧ LexLe (reducer_argmin_f32_i32 (F := Ideal) a b) a ∧ LexLe (reducer_argmin_f32_i32 (F := Ideal) a b) b := by
  obtain ⟨u, i⟩ := a
  obtain ⟨v, j⟩ := b
  have hone : ¬ (u ≠ u) := fun h => h rfl
  rcases lt_trichotomy u v with h | h | h
  · have e : reducer_argmin_f32_i32 (F := Ideal) (u, i) (v, j) = (u, i) := by
      simp [reducer_argmin_f32_i32, Ideal.cmpf_def, Ideal.cmp, h, ori_one, Scalar.select, h.ne]
    rw [e]
    exact ⟨Or.inl rfl, LexLe.refl _, Or.inl h⟩
  · subst h
    by_cases hij : i.slt j
    · have e : reducer_argmin_f32_i32 (F := Ideal) (u, i) (u, j) = (u, i) := by
        simp [reducer_argmin_f32_i32, Ideal.cmpf_def, Ideal.cmp, IntOp.ori, IntOp.andi, IntOp.cmpi, Scalar.select, hij]
      rw [e]
      exact ⟨Or.inl rfl, LexLe.refl _, Or.inr ⟨rfl, le_of_lt (of_decide_eq_true hij)⟩⟩
    · have e : reducer_argmin_f32_i32 (F := Ideal) (u, i) (u, j) = (u, j) := by
        simp [reducer_argmin_f32_i32, Ideal.cmpf_def, Ideal.cmp, IntOp.ori, IntOp.andi, IntOp.cmpi, Scalar.select, hij]
      rw [e]
      exact ⟨Or.inr rfl, Or.inr ⟨rfl, not_lt.mp fun h => hij (decide_eq_true h)⟩, LexLe.refl _⟩
  · have e : reducer_argmin_f32_i32 (F := Ideal) (u, i) (v, j) = (v, j) := by
      simp [reducer_argmin_f32_i32, Ideal.cmpf_def, Ideal.cmp, IntOp.ori, IntOp.andi, Scalar.select, h.not_gt, h.ne']
    rw [e]
    exact ⟨Or.inr rfl, Or.inl h, LexLe.refl _⟩

/-- The pairs that the reduction meets at row `n`: every entry of the row with its position. -/
theorem mem_fiber (d : FVec Ideal S16384x1024 .f32) (n : Fin 16384) (p : EReal × BitVec 32) :
    p ∈ Host.argReduceFiber (α := EReal) d (iotaInDim S16384x1024 32 1) reducesTo_S16384x1024_S16384_d1 (ix1 n)
      ↔ ∃ k : Fin 1024, p = (d (ix2 n k), BitVec.ofNat 32 k.val) := by
  unfold Host.argReduceFiber
  simp only [List.mem_map, List.mem_filter, List.mem_finRange, true_and, decide_eq_true_eq]
  constructor
  · rintro ⟨q, hq, rfl⟩
    generalize S16384x1024.rowMajor.symm q = i at hq
    idx_vars i
    have : i0 = n := by
      have h := congrFun hq (0 : Fin 1)
      exact h
    subst this
    exact ⟨i1, rfl⟩
  · rintro ⟨k, rfl⟩
    refine ⟨S16384x1024.rowMajor (ix2 n k), ?_, ?_⟩
    · rw [Equiv.symm_apply_apply]
      funext a
      match a with
      | ⟨0, _⟩ => rfl
    · rw [Equiv.symm_apply_apply]
      rfl

/-- A fold from a pair equal to `(⊤, 0)` over a list with the members `hL` names. -/
theorem fold_snd {d : Fin 1024 → EReal} (L : List (EReal × BitVec 32)) (a : EReal × BitVec 32) (ha : a = (⊤, 0#32))
    (hL : ∀ p, p ∈ L ↔ ∃ j, p = (d j, BitVec.ofNat 32 j.val)) :
    (L.foldl (reducer_argmin_f32_i32 (F := Ideal)) a).2 = BitVec.ofNat 32 (nearest d).val := by
  rw [ha]
  exact lexMin_fold (by norm_num) (nearest_spec d) _ reducer_lex L hL

/-- The reduction's pair at row `n` is its fold over the row's pairs. -/
theorem minPair_row (d : FVec Ideal S16384x1024 .f32) (n : Fin 16384) :
    minPair d (ix1 n)
      = (Host.argReduceFiber d (iotaInDim S16384x1024 32 1) reducesTo_S16384x1024_S16384_d1 (ix1 n)).foldl
          (reducer_argmin_f32_i32 (F := Ideal))
          (constant (F := Ideal) S_ .f32 0x7F800000#32 (Shape.Idx.first h_S_), constantI S_ 32 0#32 (Shape.Idx.first h_S_)) := by
  unfold minPair
  rw [Ideal.argReduce_eq_reduce2, Host.reduce2_eq_foldl_fiber]

/-- Where a pair is such a fold, over a list with the members `hL` names, its second component is the first least entry's
    position. -/
theorem snd_of_fold {d : Fin 1024 → EReal} (P : S16384.Idx → EReal × BitVec 32) (I : S16384.Idx → BitVec 32)
    (hI : I = fun j => (P j).2) (j : S16384.Idx) (L : List (EReal × BitVec 32)) (a : EReal × BitVec 32)
    (hr : P j = L.foldl (reducer_argmin_f32_i32 (F := Ideal)) a) (ha : a = (⊤, 0#32))
    (hL : ∀ p, p ∈ L ↔ ∃ k, p = (d k, BitVec.ofNat 32 k.val)) :
    I j = BitVec.ofNat 32 (nearest d).val := by
  subst hI
  exact (congrArg Prod.snd hr).trans (fold_snd L a ha hL)

/-- The index of row `n` is the position of the row's first least entry. -/
theorem minIndex_apply (d : FVec Ideal S16384x1024 .f32) (n : Fin 16384) :
    minIndex d (ix1 n) = BitVec.ofNat 32 (nearest fun k : Fin 1024 => d (ix2 n k)).val :=
  snd_of_fold (d := fun k => d (ix2 n k)) (minPair d) (minIndex d) rfl (ix1 n) _ _ (minPair_row d n)
    (Prod.ext ofBits_top rfl) (mem_fiber d n)

end Cert.Proof.Reference

end
-- ==== Proof.Reference.Rows.lean ====
/-
  The reference's lookup read at an entry: where the index of row `n` is a position `k` of the codebook, the row taken is
  codebook vector `k`.
-/
module

public import proofs.«01_k».proof.Proof.Reference.Index
public import Idealize.ShloMosaic.Lib.Routing.Ops

@[expose] public section

set_option maxRecDepth 16384

noncomputable section

namespace Cert.Proof.Reference

open Cert.ReferenceIdeal Cert.ReferenceIdeal.Gen
open Idealize.ShloMosaic Idealize.SL.Sem
open Cert.Proof.Nearest

/-- A position of the codebook isn't negative, so it isn't moved. -/
theorem not_negative : ∀ k : Fin 1024, IntOp.cmpi .slt (BitVec.ofNat 32 k.val) 0#32 = 0#1 := by decide +kernel

/-- A position of the codebook lies between 0 and 1023. -/
theorem in_range : ∀ k : Fin 1024, IntOp.andi (IntOp.cmpi .sge (BitVec.ofNat 32 k.val) 0#32)
    (IntOp.cmpi .sle (BitVec.ofNat 32 k.val) 1023#32) = 1#1 := by decide +kernel

/-- The column of start indices holds `k` at row `n`, where the index of row `n` is the position `k`. -/
theorem wrapped_apply (i : IVec S16384 32) (n : Fin 16384) (k : Fin 1024) (h : i (ix1 n) = BitVec.ofNat 32 k.val) (z : Fin 1) :
    wrapped i (ix2 n z) = BitVec.ofNat 32 k.val := by
  pointwise [wrapped, asColumn]
  rw [h, not_negative k]
  rfl

/-- The range test of row `n` passes, where the index of row `n` is a position `k`. -/
theorem inRange_apply (i : IVec S16384 32) (n : Fin 16384) (k : Fin 1024) (h : i (ix1 n) = BitVec.ofNat 32 k.val) :
    inRange i (ix1 n) = 1#1 := by
  pointwise [inRange]
  simp only [wrapped_apply i n k h, in_range k]
  decide

/-- The gather alone: its row `n` is row `k` of the table, where the start index of row `n` is `k`. -/
theorem gathered_apply (c : FVec Ideal S1024x64 .f32) (i : IVec S16384x1 32) (n : Fin 16384) (k : Fin 1024)
    (h : i (ix2 n 0) = BitVec.ofNat 32 k.val) (j : Fin 64) :
    Host.gather gather_S1024x64_S16384x1_S16384x64_1_0_n_n_0_1_164 c i (ix2 n j) = c (ix2 k j) :=
  Routing.gather_row gather_S1024x64_S16384x1_S16384x64_1_0_n_n_0_1_164 rfl rfl rfl rfl rfl c i n j k h (by norm_num)

/-- A choice entry by entry whose mask, copied along the rows, is set at row `n` holds its first branch there. -/
theorem chosen {t : Vec Ideal S16384x64 .f32} (M : IVec S16384 1) (G N : Vec Ideal S16384x64 .f32)
    (ht : t = select (broadcastInDim S16384x64 ![0] bcast_S16384_S16384x64_0 M) G N) (n : Fin 16384) (j : Fin 64)
    (hM : M (ix1 n) = 1#1) : t (ix2 n j) = G (ix2 n j) := by
  subst ht
  pointwise
  rw [hM]
  rfl

/-- The lookup is the gathered rows where the range test passes. -/
theorem takenRows_eq (c : FVec Ideal S1024x64 .f32) (i : IVec S16384 32) :
    takenRows c i = select (broadcastInDim S16384x64 ![0] bcast_S16384_S16384x64_0 (inRange i))
      (Host.gather gather_S1024x64_S16384x1_S16384x64_1_0_n_n_0_1_164 c (wrapped i))
      (broadcastInDim S16384x64 ![] bcast_S_S16384x64 (constant S_ .f32 0x7FC00000#32)) := rfl

/-- Row `n` of the lookup is row `n` of the gather, where the index of row `n` is a position of the codebook. -/
theorem takenRows_gather (c : FVec Ideal S1024x64 .f32) (i : IVec S16384 32) (n : Fin 16384) (k : Fin 1024)
    (h : i (ix1 n) = BitVec.ofNat 32 k.val) (j : Fin 64) :
    takenRows c i (ix2 n j)
      = Host.gather gather_S1024x64_S16384x1_S16384x64_1_0_n_n_0_1_164 c (wrapped i) (ix2 n j) := by
  have hr := inRange_apply i n k h
  exact chosen (inRange i) _ _ (takenRows_eq c i) n j hr

/-- Row `n` of the lookup is codebook vector `k`, where the index of row `n` is the position `k`. -/
theorem takenRows_apply (c : FVec Ideal S1024x64 .f32) (i : IVec S16384 32) (n : Fin 16384) (k : Fin 1024)
    (h : i (ix1 n) = BitVec.ofNat 32 k.val) (j : Fin 64) :
    takenRows c i (ix2 n j) = c (ix2 k j) := by
  have hw := wrapped_apply i n k h 0
  rw [takenRows_gather c i n k h j, gathered_apply c (wrapped i) n k hw j]

/-- The codebook position that lies nearest to pixel `n` of the images `x`. -/
def nearestCode (x : FVec Ideal S16x64x32x32 .f32) (c : FVec Ideal S1024x64 .f32) (n : Fin 16384) : Fin 1024 :=
  nearest fun k => sqDist (pixel x n) (code c k)

/-- A row of positions turned into a column. -/
theorem asColumn_apply (m : IVec S16384 32) (n : Fin 16384) (z : Fin 1) : asColumn m (ix2 n z) = m (ix1 n) := by
  pointwise [asColumn]

/-- A column of positions turned back into a row. -/
theorem asRow_apply (q : IVec S16384x1 32) (n : Fin 16384) :
    shapeCast S16384 q shapeCasts_S16384x1_S16384 (ix1 n) = q (ix2 n 0) := by pointwise

/-- The rows of pixels as images. -/
theorem asImages_apply (q : FVec Ideal S16384x64 .f32) (b : Fin 16) (j : Fin 64) (h w : Fin 32) :
    asImages q (ix4 b j h w) = q (ix2 ⟨b.val * 1024 + h.val * 32 + w.val, by omega⟩ j) := by
  pointwise [asImages]

/-- The column of first least positions of a table, at row `n`. -/
theorem leastColumn_apply (d : FVec Ideal S16384x1024 .f32) (m : IVec S16384 32)
    (hm : ∀ n, m (ix1 n) = BitVec.ofNat 32 (nearest fun k : Fin 1024 => d (ix2 n k)).val) (n : Fin 16384) (z : Fin 1) :
    asColumn m (ix2 n z) = BitVec.ofNat 32 (nearest fun k : Fin 1024 => d (ix2 n k)).val := by
  rw [asColumn_apply, hm]

/-- The nearest codebook position by the table of distances is the nearest by the distances. -/
theorem nearest_distTable (x : FVec Ideal S16x64x32x32 .f32) (c : FVec Ideal S1024x64 .f32) (n : Fin 16384) :
    (nearest fun k : Fin 1024 => distTable x c (ix2 n k)) = nearestCode x c n := by
  unfold nearestCode
  simp only [distTable_apply]

/-- The reference's first result at row `n` is the position of the codebook vector nearest to pixel `n`. -/
theorem indexResult_apply (x : FVec Ideal S16x64x32x32 .f32) (c : FVec Ideal S1024x64 .f32) (n : Fin 16384) (z : Fin 1) :
    indexResult x c (ix2 n z) = BitVec.ofNat 32 (nearestCode x c n).val := by
  rw [← nearest_distTable]
  exact leastColumn_apply (distTable x c) _ (minIndex_apply (distTable x c)) n z

/-- The reference's second result at channel `j` of the pixel at row `h`, column `w` of image `b` is channel `j` of the codebook
    vector nearest to that pixel. -/
theorem rowResult_apply (x : FVec Ideal S16x64x32x32 .f32) (c : FVec Ideal S1024x64 .f32) (b : Fin 16) (j : Fin 64) (h w : Fin 32) :
    rowResult x c (ix4 b j h w) = code c (nearestCode x c ⟨b.val * 1024 + h.val * 32 + w.val, by omega⟩) j := by
  unfold rowResult code
  rw [asImages_apply]
  refine takenRows_apply c _ _ _ ?_ j
  rw [asRow_apply, indexResult_apply]

end Cert.Proof.Reference

end
-- ==== Proof.Equation.lean ====
/-
  The equation: the kernel's two results, as functions of the images and the codebook, are the reference's. Both sides name,
  for every pixel, the first codebook vector at the least squared distance.
-/
module

public import proofs.«01_k».proof.Proof.Kernel.Run
public import proofs.«01_k».proof.Proof.Reference.Rows

@[expose] public section

set_option maxRecDepth 16384

noncomputable section

namespace Cert.Proof

open Cert.ReferenceIdeal
open Idealize.ShloMosaic Idealize.SL.Sem

/-- Both sides choose the same codebook vector for a pixel. -/
theorem nearest_agrees (x : FVec Ideal S16x64x32x32 .f32) (c : FVec Ideal S1024x64 .f32) (n : Fin 16384) :
    Kernel.nearestTo c (fun j => x (ix4 (⟨n.val / 1024, by omega⟩ : Fin 16) j (⟨n.val / 32 % 32, by omega⟩ : Fin 32)
      (⟨n.val % 32, by omega⟩ : Fin 32))) = Reference.nearestCode x c n := rfl

/-- The pixel at row `h`, column `w` of image `b` is pixel `1024 b + 32 h + w`. -/
theorem pixel_at (x : FVec Ideal S16x64x32x32 .f32) (b : Fin 16) (h w : Fin 32) :
    (fun j : Fin 64 => x (ix4 b j h w)) = Reference.pixel x ⟨b.val * 1024 + h.val * 32 + w.val, by omega⟩ := by
  funext j
  have e0 : (⟨(b.val * 1024 + h.val * 32 + w.val) / 1024, by omega⟩ : Fin 16) = b :=
    Fin.ext (by show (b.val * 1024 + h.val * 32 + w.val) / 1024 = b.val; omega)
  have e1 : (⟨(b.val * 1024 + h.val * 32 + w.val) / 32 % 32, by omega⟩ : Fin 32) = h :=
    Fin.ext (by show (b.val * 1024 + h.val * 32 + w.val) / 32 % 32 = h.val; omega)
  have e2 : (⟨(b.val * 1024 + h.val * 32 + w.val) % 32, by omega⟩ : Fin 32) = w :=
    Fin.ext (by show (b.val * 1024 + h.val * 32 + w.val) % 32 = w.val; omega)
  show x (ix4 b j h w) = x (ix4 (⟨(b.val * 1024 + h.val * 32 + w.val) / 1024, by omega⟩ : Fin 16) j
    (⟨(b.val * 1024 + h.val * 32 + w.val) / 32 % 32, by omega⟩ : Fin 32)
    (⟨(b.val * 1024 + h.val * 32 + w.val) % 32, by omega⟩ : Fin 32))
  rw [e0, e1, e2]

/-- The choice for the pixel at row `h`, column `w` of image `b`. -/
theorem nearest_at (x : FVec Ideal S16x64x32x32 .f32) (c : FVec Ideal S1024x64 .f32) (b : Fin 16) (h w : Fin 32) :
    Kernel.nearestTo c (fun j => x (ix4 b j h w))
      = Reference.nearestCode x c ⟨b.val * 1024 + h.val * 32 + w.val, by omega⟩ := by
  rw [pixel_at x b h w]
  rfl

/-- The kernel's positions are the reference's. -/
theorem index_agrees (x : FVec Ideal S16x64x32x32 .f32) (c : FVec Ideal S1024x64 .f32) :
    Reference.indexResult x c = Kernel.indexOut x c := by
  funext i
  idx_vars i
  have hk := Kernel.indexOut_apply x c i0 i1
  rw [nearest_agrees x c i0] at hk
  exact (Reference.indexResult_apply x c i0 i1).trans hk.symm

/-- The kernel's vectors are the reference's. -/
theorem rows_agree (x : FVec Ideal S16x64x32x32 .f32) (c : FVec Ideal S1024x64 .f32) :
    Reference.rowResult x c = Kernel.rowOut x c := by
  funext i
  idx_vars i
  have hk := Kernel.rowOut_apply x c i0 i1 i2 i3
  rw [nearest_at x c i0 i2 i3] at hk
  exact (Reference.rowResult_apply x c i0 i1 i2 i3).trans hk.symm

end Cert.Proof

end
-- ==== Proof.lean ====
/-
  The claims about the nearest-codebook-vector kernel, assembled: the frames of the kernel, of its idealization and of the
  reference, that the idealization rewrote nothing, and that over the extended reals the kernel and the reference return the
  same positions and the same codebook vectors. The mathematics is in the modules under `Proof/`: `Nearest` (the first least
  entry), `Reference/` (what the reference computes), `Kernel/` (what a block, the arrays and the run hold) and `Equation`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs, leaves its arguments unchanged and ends with every counter at zero. -/
theorem frame_kernel : Cert.quiescent_Kernel := fun m ρ _ => Cert.Kernel.Gen.frame m ρ

/-- So does its idealization, -/
theorem frame_ideal : Cert.quiescent_KernelIdeal := fun m ρ _ => Cert.KernelIdeal.Gen.frame m ρ

/-- and the reference, which has no counters. -/
theorem frame_reference : Cert.quiescent_ReferenceIdeal := fun m ρ _ =>
  (θ_run Cert.ReferenceIdeal.defs _ _).mono (fun r h => ⟨fun c => ⟨(h c).2.2.1, (h c).2.2.2⟩,
      Idealize.ShloMosaic.sem_eq_zero_of_no_sems (by decide) r.2⟩)
    (Reference.run (F := Ideal) m ρ)

/-- The idealization rewrote nothing. -/
theorem preserves : Cert.preserves_Kernel_KernelIdeal := trivial

/-- From equal arguments the idealized kernel and the reference end with equal results: the same positions and the same
    codebook vectors. -/
theorem algebraic : Cert.algebraic_KernelIdeal_ReferenceIdeal := by
  intro m ρ m' ρ' _ hagree
  refine ⟨_, _, Kernel.run m ρ, ?_⟩
  refine (θ_run Cert.ReferenceIdeal.defs _ _).mono (fun r h c => ⟨(h c).1.trans ?_, (h c).2.1.trans ?_, (h c).2.2.1, (h c).2.2.2⟩)
    (Reference.run (F := Ideal) m' ρ')
  · rw [(hagree c).1, (hagree c).2]
    exact index_agrees _ _
  · rw [(hagree c).1, (hagree c).2]
    exact rows_agree _ _

/-- All five claims. -/
theorem claim : Cert.Claim := ⟨Cert.Kernel.Gen.facts, Cert.KernelIdeal.Gen.facts, Cert.ReferenceIdeal.Gen.facts,
  frame_kernel, frame_ideal, frame_reference, preserves, algebraic⟩

end Cert.Proof

end
